-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_amax_tame [hPre_amax_tame : Cert.Pre_amax_tame.Facts] (m : (ℓ : Loc Cert.KernelIdeal.nD Cert.KernelIdeal.τ Cert.KernelIdeal.sig) → Buf (Elt Ideal) ℓ) : Prop :=
  ∀ c : Dev Cert.KernelIdeal.nD,
    (Cert.Pre_amax_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_amax_tame [hPre_amax_tame : Cert.Pre_amax_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_amax_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_amax_tame [hKernelIdeal : Cert.KernelIdeal.Facts] [hPre_amax_tame : Cert.Pre_amax_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_amax_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_amax_tame [hReferenceIdeal : Cert.ReferenceIdeal.Facts] [hPre_amax_tame : Cert.Pre_amax_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_amax_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_amax_tame [hKernelIdeal : Cert.KernelIdeal.Facts] [hReferenceIdeal : Cert.ReferenceIdeal.Facts] [hPre_amax_tame : Cert.Pre_amax_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_amax_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_amax_tame : Cert.Pre_amax_tame.Facts),
    quiescent_Kernel (hKernel := hKernel)
    ∧ quiescent_KernelIdeal (hKernelIdeal := hKernelIdeal)
    ∧ quiescent_KernelIdeal_pre_amax_tame (hKernelIdeal := hKernelIdeal) (hPre_amax_tame := hPre_amax_tame)
    ∧ quiescent_ReferenceIdeal (hReferenceIdeal := hReferenceIdeal)
    ∧ quiescent_ReferenceIdeal_pre_amax_tame (hReferenceIdeal := hReferenceIdeal) (hPre_amax_tame := hPre_amax_tame)
    ∧ preserves_Kernel_KernelIdeal
    ∧ algebraic_KernelIdeal_ReferenceIdeal_pre_amax_tame (hKernelIdeal := hKernelIdeal) (hReferenceIdeal := hReferenceIdeal) (hPre_amax_tame := hPre_amax_tame)
-- ==== Pre_amax_tame.lean ====
abbrev S4x8192x3072 : Shape := ⟨3, ![4, 8192, 3072]⟩
abbrev S3072x1152 : Shape := ⟨2, ![3072, 1152]⟩
abbrev S24x9 : Shape := ⟨2, ![24, 9]⟩
abbrev S1152 : Shape := ⟨1, ![1152]⟩
abbrev S4x8192x24x128 : Shape := ⟨4, ![4, 8192, 24, 128]⟩
abbrev S_ : Shape := ⟨0, ![]⟩
abbrev S4x8192x24 : Shape := ⟨3, ![4, 8192, 24]⟩

class Facts : Prop where
  bitsLt_bf16_f32 : FTy.bits .bf16 < FTy.bits .f32
  shapeCasts_S4x8192x3072_S4x8192x24x128 : S4x8192x3072.ShapeCasts S4x8192x24x128
  reducesTo_S4x8192x24x128_S4x8192x24_d3 : S4x8192x24x128.ReducesTo [3] S4x8192x24
  h_S_ : 0 < S_.numel
  bcast_S_S4x8192x24 : S_.BroadcastsInDim S4x8192x24 (![] : Fin 0 → Fin S4x8192x24.rank)

variable [Facts]

def fn {F : FTy → Type} [FloatOps F] (main_arg0 : FVec F S4x8192x3072 .bf16) (main_arg1 : FVec F S3072x1152 .fp8e4m3) (main_arg2 : FVec F S24x9 .f32) (main_arg3 : FVec F S1152 .f32) : IVec S4x8192x24 1 :=
  let main_v0 : FVec F S4x8192x3072 .f32 := (extf .f32 · bitsLt_bf16_f32) main_arg0
  let main_v1 : FVec F S4x8192x24x128 .f32 := shapeCast S4x8192x24x128 main_v0 shapeCasts_S4x8192x3072_S4x8192x24x128
  let main_v2 : FVec F S4x8192x24x128 .f32 := Host.absf main_v1
  let main_cst : FVec F S_ .f32 := constant S_ .f32 0xFF800000#32
  let main_v3 : FVec F S4x8192x24 .f32 := (fun x v => Host.reduce FloatOps.maximumf x v reducesTo_S4x8192x24x128_S4x8192x24_d3 h_S_) main_v2 main_cst
  let main_cst_0 : FVec F S_ .f32 := constant S_ .f32 0x00000000#32
  let main_v4 : FVec F S4x8192x24 .f32 := broadcastInDim S4x8192x24 ![] bcast_S_S4x8192x24 main_cst_0
  let main_v5 : IVec S4x8192x24 1 := cmpf .oeq main_v3 main_v4
  let main_cst_1 : FVec F S_ .f32 := constant S_ .f32 0x04600000#32
  let main_v6 : FVec F S4x8192x24 .f32 := broadcastInDim S4x8192x24 ![] bcast_S_S4x8192x24 main_cst_1
  let main_v7 : IVec S4x8192x24 1 := cmpf .oge main_v3 main_v6
  let main_cst_2 : FVec F S_ .f32 := constant S_ .f32 0x7F7F0000#32
  let main_v8 : FVec F S4x8192x24 .f32 := broadcastInDim S4x8192x24 ![] bcast_S_S4x8192x24 main_cst_2
  let main_v9 : IVec S4x8192x24 1 := cmpf .ole main_v3 main_v8
  let main_v10 : IVec S4x8192x24 1 := andi main_v7 main_v9
  let main_v11 : IVec S4x8192x24 1 := ori main_v5 main_v10
  main_v11
-- ==== Kernel.lean ====
abbrev S4x8192x3072 : Shape := ⟨3, ![4, 8192, 3072]⟩
abbrev S3072x1152 : Shape := ⟨2, ![3072, 1152]⟩
abbrev S24x9 : Shape := ⟨2, ![24, 9]⟩
abbrev S1152 : Shape := ⟨1, ![1152]⟩
abbrev S24x9x128 : Shape := ⟨3, ![24, 9, 128]⟩
abbrev S24x1152 : Shape := ⟨2, ![24, 1152]⟩
abbrev S1x1152 : Shape := ⟨2, ![1, 1152]⟩
abbrev S4x1024x9x8x128 : Shape := ⟨5, ![4, 1024, 9, 8, 128]⟩
abbrev S4x24x8192 : Shape := ⟨3, ![4, 24, 8192]⟩
abbrev S1x256x3072 : Shape := ⟨3, ![1, 256, 3072]⟩
abbrev S1x32x9x8x128 : Shape := ⟨5, ![1, 32, 9, 8, 128]⟩
abbrev S1x24x256 : Shape := ⟨3, ![1, 24, 256]⟩
abbrev S256x24 : Shape := ⟨2, ![256, 24]⟩
abbrev S256x1152 : Shape := ⟨2, ![256, 1152]⟩
abbrev S1x256x128 : Shape := ⟨3, ![1, 256, 128]⟩
abbrev S256x128 : Shape := ⟨2, ![256, 128]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x1152 : Shape := ⟨2, ![128, 1152]⟩
abbrev S24x256 : Shape := ⟨2, ![24, 256]⟩
abbrev S32x8x128 : Shape := ⟨3, ![32, 8, 128]⟩
abbrev S1x32x1x8x128 : Shape := ⟨5, ![1, 32, 1, 8, 128]⟩
abbrev S4x1024x8x9x128 : Shape := ⟨5, ![4, 1024, 8, 9, 128]⟩
abbrev S4x8192x1152 : Shape := ⟨3, ![4, 8192, 1152]⟩
abbrev S4x8192x24 : Shape := ⟨3, ![4, 8192, 24]⟩

abbrev nBuf : Space → Nat
  | .hbm => 13
  | .vmem => 11
  | .smem => 0
  | _ => 0

abbrev bufTy : (tb : Table) → Fin (tcTables nBuf tb) → BufTy
  | .hbm, ⟨0, _⟩ => ⟨S4x8192x3072, .bf16⟩
  | .hbm, ⟨1, _⟩ => ⟨S3072x1152, .fp8e4m3⟩
  | .hbm, ⟨2, _⟩ => ⟨S24x9, .f32⟩
  | .hbm, ⟨3, _⟩ => ⟨S1152, .f32⟩
  | .hbm, ⟨4, _⟩ => ⟨S24x9x128, .f32⟩
  | .hbm, ⟨5, _⟩ => ⟨S24x1152, .f32⟩
  | .hbm, ⟨6, _⟩ => ⟨S1x1152, .f32⟩
  | .hbm, ⟨7, _⟩ => ⟨S4x1024x9x8x128, .bf16⟩
  | .hbm, ⟨8, _⟩ => ⟨S4x8192x3072, .fp8e4m3⟩
  | .hbm, ⟨9, _⟩ => ⟨S4x24x8192, .f32⟩
  | .hbm, ⟨10, _⟩ => ⟨S4x1024x8x9x128, .bf16⟩
  | .hbm, ⟨11, _⟩ => ⟨S4x8192x1152, .bf16⟩
  | .hbm, ⟨12, _⟩ => ⟨S4x8192x24, .f32⟩
  | .local _ .vmem, ⟨0, _⟩ => ⟨S1x256x3072, .bf16⟩
  | .local _ .vmem, ⟨1, _⟩ => ⟨S1x256x3072, .bf16⟩
  | .local _ .vmem, ⟨2, _⟩ => ⟨S3072x1152, .fp8e4m3⟩
  | .local _ .vmem, ⟨3, _⟩ => ⟨S24x1152, .f32⟩
  | .local _ .vmem, ⟨4, _⟩ => ⟨S1x1152, .f32⟩
  | .local _ .vmem, ⟨5, _⟩ => ⟨S1x32x9x8x128, .bf16⟩
  | .local _ .vmem, ⟨6, _⟩ => ⟨S1x32x9x8x128, .bf16⟩
  | .local _ .vmem, ⟨7, _⟩ => ⟨S1x256x3072, .fp8e4m3⟩
  | .local _ .vmem, ⟨8, _⟩ => ⟨S1x256x3072, .fp8e4m3⟩
  | .local _ .vmem, ⟨9, _⟩ => ⟨S1x24x256, .f32⟩
  | .local _ .vmem, ⟨10, _⟩ => ⟨S1x24x256, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S3072x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S24x1152 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x9x8x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3072 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x24x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x3072 : Shape := ⟨3, ![4, 8192, 3072]⟩
abbrev S3072x1152 : Shape := ⟨2, ![3072, 1152]⟩
abbrev S24x9 : Shape := ⟨2, ![24, 9]⟩
abbrev S1152 : Shape := ⟨1, ![1152]⟩
abbrev S4x8192x1152 : Shape := ⟨3, ![4, 8192, 1152]⟩
abbrev S4x8192x24 : Shape := ⟨3, ![4, 8192, 24]⟩
abbrev S4x8192x24x128 : Shape := ⟨4, ![4, 8192, 24, 128]⟩
abbrev S4x8192x24x1 : Shape := ⟨4, ![4, 8192, 24, 1]⟩
abbrev S32768x24x128 : Shape := ⟨3, ![32768, 24, 128]⟩
abbrev S24x128x1152 : Shape := ⟨3, ![24, 128, 1152]⟩
abbrev S24x32768x1152 : Shape := ⟨3, ![24, 32768, 1152]⟩
abbrev S32768x24 : Shape := ⟨2, ![32768, 24]⟩
abbrev S24x32768 : Shape := ⟨2, ![24, 32768]⟩
abbrev S24x9x1 : Shape := ⟨3, ![24, 9, 1]⟩
abbrev S24x9x128 : Shape := ⟨3, ![24, 9, 128]⟩
abbrev S24x1152 : Shape := ⟨2, ![24, 1152]⟩
abbrev S24x32768x1 : Shape := ⟨3, ![24, 32768, 1]⟩
abbrev S24x1x1152 : Shape := ⟨3, ![24, 1, 1152]⟩
abbrev S32768x1152 : Shape := ⟨2, ![32768, 1152]⟩
abbrev S1x1152 : Shape := ⟨2, ![1, 1152]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x3072, .bf16⟩
  | .hbm, ⟨1, _⟩ => ⟨S3072x1152, .fp8e4m3⟩
  | .hbm, ⟨2, _⟩ => ⟨S24x9, .f32⟩
  | .hbm, ⟨3, _⟩ => ⟨S1152, .f32⟩
  | .hbm, ⟨4, _⟩ => ⟨S4x8192x1152, .bf16⟩
  | .hbm, ⟨5, _⟩ => ⟨S4x8192x3072, .fp8e4m3⟩
  | .hbm, ⟨6, _⟩ => ⟨S4x8192x24, .f32⟩
  | .local _ .vmem, ⟨0, _⟩ => ⟨S4x8192x3072, .bf16⟩
  | .local _ .vmem, ⟨1, _⟩ => ⟨S3072x1152, .fp8e4m3⟩
  | .local _ .vmem, ⟨2, _⟩ => ⟨S24x9, .f32⟩
  | .local _ .vmem, ⟨3, _⟩ => ⟨S1152, .f32⟩
  | .local _ .vmem, ⟨4, _⟩ => ⟨S4x8192x1152, .bf16⟩
  | .local _ .vmem, ⟨5, _⟩ => ⟨S4x8192x3072, .fp8e4m3⟩
  | .local _ .vmem, ⟨6, _⟩ => ⟨S4x8192x24, .f32⟩
  | _, _ => ⟨S4x8192x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x8192x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x1152 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1152 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x8192x3072 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x24 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scalar.lean ====
/- The arithmetic of one group's scale. From the group's largest magnitude `a` the reference takes the exponent
   `⌊log₂ (a / 448)⌋ + 1`, and the scale is that power of two. The kernel counts the powers of two `2^(k-127)`,
   `k = 1 … 255`, that `a / 448` reaches and builds the power of two from the count as a word. On a tame `a` the two
   agree. -/
module

public import Idealize.ShloMosaic.Lib.Pointwise
public import Idealize.ShloMosaic.Lib.IndicatorCount

@[expose] public section

noncomputable section

namespace Cert.Quant

open Idealize.ShloMosaic

/-! ## The two exponents -/

/-- `1 / 448` in single precision. -/
abbrev c448 : EReal := Ideal.ofBits .f32 991054117#32

/-- The largest magnitude of a group's 128 elements. -/
def amax (f : Fin 128 → EReal) : EReal :=
  Finset.univ.fold max (Ideal.ofBits .f32 4286578688#32) fun k => FloatOps.absf (F := Ideal) (φ := .f32) (f k)

/-- Element `l` of group `g` is column `128 g + l`. -/
def col (g : Fin 24) (l : Fin 128) : Fin 3072 := ⟨g.val * 128 + l.val, by have := g.isLt; have := l.isLt; omega⟩

/-- The reference's exponent of a group whose largest magnitude is `a`. -/
def refExp (a : EReal) : EReal :=
  if a = 0 then 0
  else Ideal.liftRound Int.floor (Ideal.div (Ideal.log (a * c448)) (Ideal.log (Ideal.ofBits .f32 1073741824#32))) + 1

/-- The scale of a group. -/
def scale (a : EReal) : EReal := Ideal.exp2 (refExp a)

/-- The reciprocal of a group's scale. -/
def inv (a : EReal) : EReal := Ideal.exp2 (0 - refExp a)

/-- The code of an element `x` of a group whose largest magnitude is `a`. -/
def code (a x : EReal) : EReal :=
  min (Ideal.ofBits .f32 1138753536#32) (max (Ideal.ofBits .f32 3286237184#32) (x * inv a))

/-- The kernel's power of two number `k`. -/
def power (k : Fin 256) : EReal :=
  Ideal.ofBits .f32 (IntOp.shli .vector (IntOp.maxsi (BitVec.ofNat 32 k.val) 1#32) 23#32)

/-- The kernel's count of the powers of two that `v` reaches. -/
def field (v : EReal) : BitVec 32 :=
  Finset.univ.fold IntOp.addi (0#32) fun k : Fin 256 =>
    Scalar.select (IntOp.andi (IntOp.cmpi .sgt (BitVec.ofNat 32 k.val) 0#32) (BitVec.ofBool (decide (power k ≤ v))))
      (1#32) 0#32

/-- The kernel's exponent word of a group whose largest magnitude is `a`. -/
def kerExp (a : EReal) : BitVec 32 := if a * c448 = 0 then 0#32 else IntOp.subi (field (a * c448)) 126#32

/-- The kernel's scale. -/
def kerScale (a : EReal) : EReal := Ideal.ofBits .f32 (IntOp.shli .vector (IntOp.addi (kerExp a) 127#32) 23#32)

/-- The kernel's reciprocal of the scale. -/
def kerInv (a : EReal) : EReal := Ideal.ofBits .f32 (IntOp.shli .vector (IntOp.subi 127#32 (kerExp a)) 23#32)

/-- The kernel's code of an element. -/
def kerCode (a x : EReal) : EReal :=
  min (Ideal.ofBits .f32 1138753536#32) (max (Ideal.ofBits .f32 3286237184#32) (x * kerInv a))

/-- The magnitudes the claim is about: zero, or between `448 * 2^-127` and the largest finite `bf16`. -/
def Tame (a : EReal) : Prop :=
  a = 0 ∨ (Ideal.ofBits .f32 0x04600000#32 ≤ a ∧ a ≤ Ideal.ofBits .f32 0x7F7F0000#32)

/-! ## Words that are powers of two -/

/-- The word with exponent field `n` and nothing else is `2^(n-127)`. -/
theorem ofBits_pow (n : ℕ) (h1 : 1 ≤ n) (h2 : n ≤ 254) :
    Ideal.ofBits .f32 (IntOp.shli .vector (BitVec.ofNat 32 n) 23#32) = (((2 : ℝ) ^ ((n : ℤ) - 127) : ℝ) : EReal) := by
  have hb : (IntOp.shli .vector (BitVec.ofNat 32 n) 23#32).toNat = n * 2 ^ 23 := by
    simp only [IntOp.shli]
    rw [if_pos (by decide)]
    simp [BitVec.toNat_shiftLeft, Nat.shiftLeft_eq]
    omega
  generalize IntOp.shli .vector (BitVec.ofNat 32 n) 23#32 = b at hb
  have hneg : (b.extractLsb' 31 1 == 1#1) = false := by
    rw [beq_eq_false_iff_ne]
    intro h
    have := congrArg BitVec.toNat h
    simp [BitVec.extractLsb'_toNat, hb, Nat.shiftRight_eq_div_pow] at this
    omega
  have hex : (b.extractLsb' 23 8).toNat = n := by
    simp [BitVec.extractLsb'_toNat, hb, Nat.shiftRight_eq_div_pow]
    omega
  have hfr : (b.extractLsb' 0 23).toNat = 0 := by
    simp [BitVec.extractLsb'_toNat, hb]
  simp only [Ideal.ofBits, Ideal.ieee]
  rw [hneg, hex, hfr, if_neg (by omega), if_neg (by omega)]
  congr 1
  have : ((n : ℤ) - 127) = ((n : ℤ) - (2 ^ (8 - 1) - 1) - (23 : ℕ)) + (23 : ℕ) := by norm_num
  rw [this, zpow_add₀ (by norm_num : (2 : ℝ) ≠ 0), zpow_natCast]
  push_cast
  ring

theorem power_pow (k : Fin 256) (h1 : 1 ≤ k.val) (h2 : k.val ≤ 254) :
    power k = (((2 : ℝ) ^ ((k.val : ℤ) - 127) : ℝ) : EReal) := by
  have : IntOp.maxsi (BitVec.ofNat 32 k.val) 1#32 = BitVec.ofNat 32 k.val := by
    have : ∀ k : Fin 256, 1 ≤ k.val → IntOp.maxsi (BitVec.ofNat 32 k.val) 1#32 = BitVec.ofNat 32 k.val := by decide
    exact this k h1
  rw [power, this, ofBits_pow _ h1 h2]

theorem power_top (k : Fin 256) (h : k.val = 255) : power k = ⊤ := by
  obtain rfl : k = 255 := Fin.ext h
  have : IntOp.shli .vector (IntOp.maxsi (BitVec.ofNat 32 (255 : Fin 256).val) 1#32) 23#32 = 0x7F800000#32 := by decide
  rw [power, this]
  simp [Ideal.ofBits, Ideal.ieee]

/-! ## The count is the exponent -/

/-- A real between `2^(n-127)` and `2^(n-126)` reaches exactly `n` of the powers. -/
theorem field_eq (r : ℝ) (n : ℕ) (h2 : n ≤ 254) (hlo : (2 : ℝ) ^ ((n : ℤ) - 127) ≤ r)
    (hhi : r < (2 : ℝ) ^ ((n : ℤ) - 126)) : field (r : EReal) = BitVec.ofNat 32 n := by
  have key : ∀ k : Fin 256, Scalar.select (IntOp.andi (IntOp.cmpi .sgt (BitVec.ofNat 32 k.val) 0#32)
      (BitVec.ofBool (decide (power k ≤ (r : EReal))))) (1#32) 0#32
        = (BitVec.ofBool (decide (1 ≤ k.val ∧ k.val ≤ n))).setWidth 32 := by
    intro k
    have hsgt : IntOp.cmpi .sgt (BitVec.ofNat 32 k.val) 0#32 = BitVec.ofBool (decide (1 ≤ k.val)) := by
      have : ∀ k : Fin 256, IntOp.cmpi .sgt (BitVec.ofNat 32 k.val) 0#32 = BitVec.ofBool (decide (1 ≤ k.val)) := by
        decide
      exact this k
    rw [hsgt]
    by_cases hk : 1 ≤ k.val
    · have hle : power k ≤ (r : EReal) ↔ k.val ≤ n := by
        by_cases h255 : k.val = 255
        · rw [power_top k h255]
          constructor
          · intro h; exact absurd (top_le_iff.1 h) (EReal.coe_ne_top r)
          · intro h; omega
        · rw [power_pow k hk (by have := k.isLt; omega), EReal.coe_le_coe_iff]
          constructor
          · intro h
            have := lt_of_le_of_lt h hhi
            rw [zpow_lt_zpow_iff_right₀ (by norm_num : (1 : ℝ) < 2)] at this
            omega
          · intro h
            refine le_trans ?_ hlo
            rw [zpow_le_zpow_iff_right₀ (by norm_num : (1 : ℝ) < 2)]
            omega
      by_cases hn : k.val ≤ n
      · rw [decide_eq_true hk, decide_eq_true (hle.2 hn), decide_eq_true (And.intro hk hn)]; rfl
      · rw [decide_eq_true hk, decide_eq_false (mt hle.1 hn), decide_eq_false (p := 1 ≤ k.val ∧ k.val ≤ n) (fun h => hn h.2)]; rfl
    · rw [decide_eq_false hk, decide_eq_false (p := 1 ≤ k.val ∧ k.val ≤ n) (fun h => hk h.1)]
      cases decide (power k ≤ (r : EReal)) <;> rfl
  unfold field
  rw [show (fun k : Fin 256 => Scalar.select (IntOp.andi (IntOp.cmpi .sgt (BitVec.ofNat 32 k.val) 0#32)
      (BitVec.ofBool (decide (power k ≤ (r : EReal))))) (1#32) 0#32)
        = fun k : Fin 256 => (BitVec.ofBool (decide (1 ≤ k.val ∧ k.val ≤ n))).setWidth 32 from funext key,
    IndicatorCount.fold_addi_setWidth_eq_card]
  congr 1
  have : (Finset.univ.filter fun k : Fin 256 => BitVec.ofBool (decide (1 ≤ k.val ∧ k.val ≤ n)) = 1#1)
      = Finset.Icc (1 : Fin 256) ⟨n, by omega⟩ := by
    ext k
    rw [Finset.mem_filter, Finset.mem_Icc]
    constructor
    · rintro ⟨_, h⟩
      by_cases hd : 1 ≤ k.val ∧ k.val ≤ n
      · exact ⟨Fin.le_def.2 hd.1, Fin.le_def.2 hd.2⟩
      · rw [decide_eq_false hd] at h; exact absurd h (by decide)
    · rintro ⟨ha, hb⟩
      exact ⟨Finset.mem_univ _, by rw [decide_eq_true ⟨Fin.le_def.1 ha, Fin.le_def.1 hb⟩]; rfl⟩
  rw [this, Fin.card_Icc]
  show n + 1 - 1 = n
  omega

/-! ## The scale -/

theorem c448_eq : c448 = ((9586981 * (2 : ℝ) ^ (-32 : ℤ) : ℝ) : EReal) := by
  simp [Ideal.ofBits, Ideal.ieee]

theorem lo_eq : Ideal.ofBits .f32 0x04600000#32 = ((448 * (2 : ℝ) ^ (-127 : ℤ) : ℝ) : EReal) := by
  simp [Ideal.ofBits, Ideal.ieee]
  rw [← EReal.coe_mul]
  congr 1
  norm_num

theorem hi_lt : ∃ h : ℝ, Ideal.ofBits .f32 0x7F7F0000#32 = (h : EReal) ∧ h < (2 : ℝ) ^ (128 : ℤ) := by
  refine ⟨(16711680 : ℝ) * 2 ^ (104 : ℤ), ?_, by norm_num⟩
  simp [Ideal.ofBits, Ideal.ieee]

theorem two_eq : Ideal.ofBits .f32 1073741824#32 = ((2 : ℝ) : EReal) := by
  simp [Ideal.ofBits, Ideal.ieee]
  rw [← EReal.coe_mul]
  congr 1
  norm_num

/-- `1 / 448` in single precision was rounded up, and is below `2^-8`. -/
theorem c448_bounds : ∃ c : ℝ, c448 = (c : EReal) ∧ (1 : ℝ) / 448 ≤ c ∧ c < (2 : ℝ) ^ (-8 : ℤ) :=
  ⟨_, c448_eq, by norm_num, by norm_num⟩

/-- A positive real reaches `2^z` exactly when `z` is at most the floor of its base-two logarithm. -/
theorem zpow_le_iff (z : ℤ) (r : ℝ) (hr : 0 < r) : (2 : ℝ) ^ z ≤ r ↔ z ≤ ⌊Real.log r / Real.log 2⌋ := by
  rw [Int.le_floor, le_div_iff₀ (Real.log_pos (by norm_num)), ← Real.log_zpow,
    Real.log_le_log_iff (zpow_pos (by norm_num) z) hr]

/-- On a tame magnitude both exponents are the same integer `e`, as a word and as a number. -/
theorem exp_agree (a : EReal) (ha : Tame a) :
    ∃ e : ℤ, -126 ≤ e ∧ e ≤ 126 ∧ refExp a = ((e : ℝ) : EReal) ∧ kerExp a = BitVec.ofInt 32 e := by
  obtain ⟨c, hc, hc1, hc2⟩ := c448_bounds
  rcases ha with rfl | ⟨hlo, hhi⟩
  · exact ⟨0, by norm_num, by norm_num, by simp [refExp], by simp [kerExp]⟩
  obtain ⟨h, hh, hh2⟩ := hi_lt
  rw [lo_eq] at hlo
  rw [hh] at hhi
  induction a with
  | bot => exact absurd (le_bot_iff.1 hlo) (EReal.coe_ne_bot _)
  | top => exact absurd (top_le_iff.1 hhi) (EReal.coe_ne_top _)
  | coe a =>
    rw [EReal.coe_le_coe_iff] at hlo hhi
    have hp : ∀ z : ℤ, (0 : ℝ) < 2 ^ z := fun z => zpow_pos (by norm_num) z
    have ha0 : 0 < a := lt_of_lt_of_le (mul_pos (by norm_num) (hp _)) hlo
    have hc0 : 0 < c := lt_of_lt_of_le (by norm_num) hc1
    have hv0 : 0 < a * c := mul_pos ha0 hc0
    have hv1 : (2 : ℝ) ^ (-127 : ℤ) ≤ a * c := by
      calc (2 : ℝ) ^ (-127 : ℤ) = 448 * 2 ^ (-127 : ℤ) * (1 / 448) := by ring
        _ ≤ a * c := mul_le_mul hlo hc1 (by norm_num) ha0.le
    have hv2 : a * c < (2 : ℝ) ^ (120 : ℤ) := by
      calc a * c < (2 : ℝ) ^ (128 : ℤ) * 2 ^ (-8 : ℤ) := mul_lt_mul'' (lt_of_le_of_lt hhi hh2) hc2 ha0.le hc0.le
        _ = 2 ^ (120 : ℤ) := by rw [← zpow_add₀ (by norm_num)]; norm_num
    have hm1 := (zpow_le_iff _ _ hv0).1 hv1
    have hm2 := lt_of_not_ge (mt (zpow_le_iff _ _ hv0).2 (not_le.2 hv2))
    have hm3 := (zpow_le_iff _ _ hv0).2 le_rfl
    have hm4 := lt_of_not_ge (mt (zpow_le_iff (⌊Real.log (a * c) / Real.log 2⌋ + 1) _ hv0).1 (by omega))
    generalize hl1 : ⌊Real.log (a * c) / Real.log 2⌋ = l at hm1 hm2 hm3 hm4
    refine ⟨l + 1, by omega, by omega, ?_, ?_⟩
    · rw [refExp, if_neg (by exact_mod_cast ha0.ne'), hc, two_eq, ← EReal.coe_mul, Ideal.log_coe, Ideal.log_coe,
        if_neg (not_le.2 hv0), if_neg (by norm_num)]
      have hlog2 : Real.log 2 ≠ 0 := (Real.log_pos (by norm_num)).ne'
      rw [Ideal.div, if_neg (by exact_mod_cast hlog2), ← EReal.coe_inv, ← EReal.coe_mul, ← div_eq_mul_inv]
      show (((⌊Real.log (a * c) / Real.log 2⌋ : ℤ) : ℝ) : EReal) + 1 = _
      rw [hl1]
      push_cast
      rfl
    · rw [kerExp, hc, ← EReal.coe_mul, if_neg (by exact_mod_cast hv0.ne')]
      rw [field_eq (a * c) (l + 127).toNat (by omega)
        (by rw [Int.toNat_of_nonneg (by omega)]; simpa using hm3)
        (by rw [Int.toNat_of_nonneg (by omega)]; rwa [show l + 127 - 126 = l + 1 by omega])]
      have key : ∀ n : Fin 253,
          IntOp.subi (BitVec.ofNat 32 n.val) 126#32 = BitVec.ofInt 32 ((n.val : ℤ) - 126) := by decide
      have := key ⟨(l + 127).toNat, by omega⟩
      simp only [Int.toNat_of_nonneg (show 0 ≤ l + 127 by omega)] at this
      rw [this]
      congr 1
      omega

theorem exp2_int (e : ℤ) : Ideal.exp2 ((e : ℝ) : EReal) = (((2 : ℝ) ^ e : ℝ) : EReal) := by
  rw [Ideal.exp2_coe]
  congr 1
  exact Real.rpow_intCast 2 e

/-- The kernel's scale is the reference's. -/
theorem kerScale_eq (a : EReal) (ha : Tame a) : kerScale a = scale a := by
  obtain ⟨e, h1, h2, hr, hk⟩ := exp_agree a ha
  have : IntOp.addi (BitVec.ofInt 32 e) 127#32 = BitVec.ofNat 32 (e + 127).toNat := by
    have key : ∀ n : Fin 253, IntOp.addi (BitVec.ofInt 32 ((n.val : ℤ) - 126)) 127#32 = BitVec.ofNat 32 (n.val + 1) := by
      decide
    have := key ⟨(e + 126).toNat, by omega⟩
    simp only [Int.toNat_of_nonneg (show 0 ≤ e + 126 by omega), add_sub_cancel_right] at this
    rw [this]
    congr 1
    omega
  rw [kerScale, scale, hr, hk, this, ofBits_pow _ (by omega) (by omega), exp2_int, Int.toNat_of_nonneg (by omega)]
  congr 2
  omega

/-- The kernel's reciprocal of the scale is the reference's. -/
theorem kerInv_eq (a : EReal) (ha : Tame a) : kerInv a = inv a := by
  obtain ⟨e, h1, h2, hr, hk⟩ := exp_agree a ha
  have : IntOp.subi 127#32 (BitVec.ofInt 32 e) = BitVec.ofNat 32 (127 - e).toNat := by
    have key : ∀ n : Fin 253, IntOp.subi 127#32 (BitVec.ofInt 32 ((n.val : ℤ) - 126)) = BitVec.ofNat 32 (253 - n.val) := by
      decide
    have := key ⟨(e + 126).toNat, by omega⟩
    simp only [Int.toNat_of_nonneg (show 0 ≤ e + 126 by omega), add_sub_cancel_right] at this
    rw [this]
    congr 1
    omega
  have h0 : (0 : EReal) - ((e : ℝ) : EReal) = (((-e : ℤ) : ℝ) : EReal) := by
    push_cast; rw [zero_sub]
  rw [kerInv, inv, hr, hk, this, ofBits_pow _ (by omega) (by omega), h0, exp2_int, Int.toNat_of_nonneg (by omega)]
  congr 2
  omega

/-- The kernel's code is the reference's. -/
theorem kerCode_eq (a x : EReal) (ha : Tame a) : kerCode a x = code a x := by rw [kerCode, code, kerInv_eq a ha]

end Cert.Quant
-- ==== Proof.Tame.lean ====
/- The precondition read: it says of every group of 128 elements of `x` that its largest magnitude is tame, that is zero
   or between `448 * 2^-127` and the largest finite `bf16`. -/
module

public import proofs.«01_k».proof.Pre_amax_tame
public import proofs.«01_k».proof.Proof.Scalar
public import Idealize.ShloMosaic.Lib.Affine
public import Idealize.ShloMosaic.Lib.Decide

@[expose] public section

noncomputable section

namespace Cert.Pre_amax_tame.Read

open Cert.Pre_amax_tame Idealize.ShloMosaic Cert.Quant

/-- The side conditions that the precondition states. -/
theorem facts : Facts where
  bitsLt_bf16_f32 := by decide
  shapeCasts_S4x8192x3072_S4x8192x24x128 := by decide
  reducesTo_S4x8192x24x128_S4x8192x24_d3 := by decide
  h_S_ := by decide
  bcast_S_S4x8192x24 := by decide

attribute [local instance] facts

open Facts

/-! ## The steps, each over an array of its own -/

/-- The elements by group. -/
def groupsV (x : FVec Ideal S4x8192x3072 .bf16) : FVec Ideal S4x8192x24x128 .f32 :=
  shapeCast S4x8192x24x128 (extf .f32 x bitsLt_bf16_f32) shapeCasts_S4x8192x3072_S4x8192x24x128

/-- The largest magnitude of every group. -/
def amaxV (X : FVec Ideal S4x8192x24x128 .f32) : FVec Ideal S4x8192x24 .f32 :=
  Host.reduce FloatOps.maximumf (Host.absf X) (constant S_ .f32 0xFF800000#32) reducesTo_S4x8192x24x128_S4x8192x24_d3 h_S_

/-- The test of every largest magnitude. -/
def testV (A : FVec Ideal S4x8192x24 .f32) : IVec S4x8192x24 1 :=
  ori (cmpf .oeq A (broadcastInDim S4x8192x24 ![] bcast_S_S4x8192x24 (constant S_ .f32 0x00000000#32)))
    (andi (cmpf .oge A (broadcastInDim S4x8192x24 ![] bcast_S_S4x8192x24 (constant S_ .f32 0x04600000#32)))
      (cmpf .ole A (broadcastInDim S4x8192x24 ![] bcast_S_S4x8192x24 (constant S_ .f32 0x7F7F0000#32))))

theorem fn_eq (x : FVec Ideal S4x8192x3072 .bf16) (w : FVec Ideal S3072x1152 .fp8e4m3) (s : FVec Ideal S24x9 .f32)
    (v : FVec Ideal S1152 .f32) : fn x w s v = testV (amaxV (groupsV x)) := rfl

theorem groupsV_apply (x : FVec Ideal S4x8192x3072 .bf16) (b : Fin 4) (r : Fin 8192) (g : Fin 24) (l : Fin 128) :
    groupsV x (ix4 b r g l) = x (ix3 b r (col g l)) := by
  pointwise [groupsV, col]

theorem amaxV_apply (X : FVec Ideal S4x8192x24x128 .f32) (b : Fin 4) (r : Fin 8192) (g : Fin 24) :
    amaxV X (ix3 b r g) = amax fun l => X (ix4 b r g l) := by
  pointwise [amaxV, amax]

theorem testV_apply (A : FVec Ideal S4x8192x24 .f32) (i : S4x8192x24.Idx) (h : testV A i = 1#1) : Tame (A i) := by
  have h' : IntOp.ori (BitVec.ofBool (decide (A i = 0))) (IntOp.andi
      (BitVec.ofBool (decide (Ideal.ofBits .f32 0x04600000#32 ≤ A i)))
      (BitVec.ofBool (decide (A i ≤ Ideal.ofBits .f32 0x7F7F0000#32)))) = 1#1 := by
    rw [← h]
    pointwise [testV]
  by_cases h0 : A i = 0
  · exact .inl h0
  · by_cases h1 : Ideal.ofBits .f32 0x04600000#32 ≤ A i
    · by_cases h2 : A i ≤ Ideal.ofBits .f32 0x7F7F0000#32
      · exact .inr ⟨h1, h2⟩
      · rw [decide_eq_false h0, decide_eq_true h1, decide_eq_false h2] at h'
        exact absurd h' (by decide)
    · rw [decide_eq_false h0, decide_eq_false h1] at h'
      exfalso
      revert h'
      cases decide (A i ≤ Ideal.ofBits .f32 0x7F7F0000#32) <;> decide

/-- Where the precondition holds, every group's largest magnitude is tame. -/
theorem tame (x : FVec Ideal S4x8192x3072 .bf16) (w : FVec Ideal S3072x1152 .fp8e4m3) (s : FVec Ideal S24x9 .f32)
    (v : FVec Ideal S1152 .f32) (h : fn x w s v = fun _ => 1#1) (b : Fin 4) (r : Fin 8192) (g : Fin 24) :
    Tame (amax fun l => x (ix3 b r (col g l))) := by
  rw [fn_eq] at h
  have ht := testV_apply (amaxV (groupsV x)) (ix3 b r g) (congrFun h _)
  rw [amaxV_apply] at ht
  exact (congrArg amax (funext fun l => groupsV_apply x b r g l)) ▸ ht

end Cert.Pre_amax_tame.Read

end
-- ==== Proof.Block.lean ====
/- What the kernel's body leaves in its three output blocks, said once for all groups: the 24 groups are unrolled in the
   body, and each runs the same operations on its own 128 columns of the block. -/
module

public import proofs.«01_k».proof.Proof.Gen.KernelIdeal.Frame

@[expose] public section

noncomputable section

namespace Cert.KernelIdeal.Block

open Cert.KernelIdeal Cert.KernelIdeal.Gen Idealize.ShloMosaic Idealize.SL.Sem

variable {F : FTy → Type} [FloatOps F]

/-! ## The rectangles a group reads and writes -/

/-- The columns of group `g` in a block of 256 rows. -/
abbrev rx (g : Fin 24) : Rect S1x256x3072 :=
  Rect.unit (s := S1x256x3072) ![0, 0, 128 * g.val] S1x256x128.size
    (by have := g.isLt; intro a; fin_cases a <;> simp <;> omega)

/-- The rows of group `g` in the weights. -/
abbrev rw (g : Fin 24) : Rect S3072x1152 :=
  Rect.unit (s := S3072x1152) ![128 * g.val, 0] S128x1152.size
    (by have := g.isLt; intro a; fin_cases a <;> simp <;> omega)

/-- The row of group `g` in the weights' scales. -/
abbrev rs (g : Fin 24) : Rect S24x1152 :=
  Rect.unit (s := S24x1152) ![g.val, 0] S1x1152.size
    (by have := g.isLt; intro a; fin_cases a <;> simp <;> omega)

/-- Column block `q` of 128 columns in the block of `y`. -/
abbrev ry (q : Fin 9) : Rect S1x32x9x8x128 :=
  Rect.unit (s := S1x32x9x8x128) ![0, 0, q.val, 0, 0] S1x32x1x8x128.size
    (by have := q.isLt; intro a; fin_cases a <;> simp <;> omega)

/-! ## One group -/

/-- The codes of a group, from its columns of the block. -/
def codes (x : Vec F S1x256x128 .bf16) : Vec F S1x256x128 .fp8e4m3 :=
  k0_pay8 (k0_pay4 x) (k0_pay5 x)

/-- The sum over the groups with one group's share added. -/
def accStep (x0 : Vec F S1x256x3072 .bf16) (x1 : Vec F S3072x1152 .fp8e4m3) (x2 : Vec F S24x1152 .f32)
    (acc : FVec F S256x1152 .f32) (g : Fin 24) : FVec F S256x1152 .f32 :=
  k0_pay10 acc (k0_pay4 (View.ld x0 (rx g))) (k0_pay5 (View.ld x0 (rx g))) (k0_pay6 (View.ld x0 (rx g)))
    (View.ld x1 (rw g)) (View.ld x2 (rs g))

/-- The table of scales with one group's column filled in. -/
def scaleStep (x0 : Vec F S1x256x3072 .bf16) (acc : FVec F S256x24 .f32) (g : Fin 24) : FVec F S256x24 .f32 :=
  select (cmpi .eq (iota .tc S256x24 32 [1] iota_S256x24_d1_w32) (broadcast S256x24 (BitVec.ofNat 32 g.val)))
    (broadcastTo S256x24 (shapeCast S256x1 (k0_pay6 (View.ld x0 (rx g))) shapeCasts_S256x1_S256x1)
      broadcasts_S256x1_S256x24) acc

/-- The sum over the first `n` groups. -/
def accs (x0 : Vec F S1x256x3072 .bf16) (x1 : Vec F S3072x1152 .fp8e4m3) (x2 : Vec F S24x1152 .f32) :
    ℕ → FVec F S256x1152 .f32
  | 0 => k0_pay2
  | n + 1 => accStep x0 x1 x2 (accs x0 x1 x2 n) (Fin.ofNat 24 n)

/-- The table of scales of the first `n` groups. -/
def scales (x0 : Vec F S1x256x3072 .bf16) : ℕ → FVec F S256x24 .f32
  | 0 => k0_pay3
  | n + 1 => scaleStep x0 (scales x0 n) (Fin.ofNat 24 n)

/-- The sum over all groups with the bias added. -/
def total (x0 : Vec F S1x256x3072 .bf16) (x1 : Vec F S3072x1152 .fp8e4m3) (x2 : Vec F S24x1152 .f32)
    (x3 : Vec F S1x1152 .f32) : FVec F S256x1152 .f32 :=
  addf (accs x0 x1 x2 24)
    (broadcastTo S256x1152 (shapeCast S1x1152 (View.ld x3 r0_73) shapeCasts_S1x1152_S1x1152) broadcasts_S1x1152_S256x1152)

/-- Column block `q` of `y` as it is stored. -/
def yPiece (t : FVec F S256x1152 .f32) (q : Fin 9) : FVec F S1x32x1x8x128 .bf16 :=
  shapeCast S1x32x1x8x128 (truncf .bf16 (shapeCast S32x8x128
    (extractStridedSlice S256x128 ![0, 128 * q.val] t
      (by have := q.isLt; refine ⟨rfl, ?_⟩; intro a; fin_cases a <;> simp <;> omega))
    shapeCasts_S256x128_S32x8x128) bitsLt_bf16_f32) shapeCasts_S32x8x128_S1x32x1x8x128

/-! ## The three blocks -/

/-- The block of codes: one piece per group. -/
theorem out5_eq (x0 : Vec F S1x256x3072 .bf16) (x1 : Vec F S3072x1152 .fp8e4m3) (x2 : Vec F S24x1152 .f32)
    (x3 : Vec F S1x1152 .f32) :
    out0_5 x0 x1 x2 x3 = View.canon ((List.finRange 24).reverse.map fun g => ⟨rx g, codes (View.ld x0 (rx g))⟩) := by
  rfl

/-- The table of scales: one column per group. -/
theorem out6_eq (x0 : Vec F S1x256x3072 .bf16) (x1 : Vec F S3072x1152 .fp8e4m3) (x2 : Vec F S24x1152 .f32)
    (x3 : Vec F S1x1152 .f32) :
    out0_6 x0 x1 x2 x3 = View.canon [⟨r0_72, shapeCast S1x24x256 (transpose S24x256 [1, 0] (scales x0 24)
      transposes_S256x24_p1_0_S24x256) shapeCasts_S24x256_S1x24x256⟩] := by
  rfl

/-- The sum the body accumulates is the sum over all groups with the bias added. -/
theorem pay323_eq (x0 : Vec F S1x256x3072 .bf16) (x1 : Vec F S3072x1152 .fp8e4m3) (x2 : Vec F S24x1152 .f32)
    (x3 : Vec F S1x1152 .f32) : k0_pay323 x0 x1 x2 x3 = total x0 x1 x2 x3 := by
  rfl

/-- The block of `y`: one piece per 128 columns. -/
theorem out4_eq (x0 : Vec F S1x256x3072 .bf16) (x1 : Vec F S3072x1152 .fp8e4m3) (x2 : Vec F S24x1152 .f32)
    (x3 : Vec F S1x1152 .f32) :
    out0_4 x0 x1 x2 x3
      = View.canon ((List.finRange 9).reverse.map fun q => ⟨ry q, yPiece (total x0 x1 x2 x3) q⟩) := by
  unfold out0_4
  rw [pay323_eq]
  rfl

end Cert.KernelIdeal.Block
-- ==== Proof.BlockValues.lean ====
/- The kernel's three output blocks at an index: every scale and code from the largest magnitude of its group of 128
   elements, every element of `y` as a sum over the groups. -/
module

public import proofs.«01_k».proof.Proof.Block
public import proofs.«01_k».proof.Proof.Scalar

@[expose] public section

noncomputable section

namespace Cert.KernelIdeal.Block

open Cert.KernelIdeal Cert.KernelIdeal.Gen Idealize.ShloMosaic Idealize.SL.Sem
open Cert.Quant

/-! ## One group -/

theorem exp_apply (x : Vec Ideal S1x256x128 .bf16) (r : Fin 256) :
    k0_pay5 x (ix2 r 0) = kerExp (amax fun l => x (ix3 0 r l)) := by
  pointwise [k0_pay5, k0_pay4, kerExp, field, power, amax]

theorem scale_apply (x : Vec Ideal S1x256x128 .bf16) (r : Fin 256) :
    k0_pay6 x (ix2 r 0) = kerScale (amax fun l => x (ix3 0 r l)) := by
  pointwise [k0_pay6]
  rw [exp_apply]
  rfl

theorem code_apply (x : Vec Ideal S1x256x128 .bf16) (r : Fin 256) (l : Fin 128) :
    codes x (ix3 0 r l) = kerCode (amax fun l => x (ix3 0 r l)) (x (ix3 0 r l)) := by
  pointwise [codes, k0_pay8, k0_pay7, k0_pay4]
  rw [exp_apply]
  rfl

theorem share_apply (acc : FVec Ideal S256x1152 .f32) (x : Vec Ideal S1x256x128 .bf16) (w : Vec Ideal S128x1152 .fp8e4m3)
    (s : Vec Ideal S1x1152 .f32) (r : Fin 256) (c : Fin 1152) :
    k0_pay10 acc (k0_pay4 x) (k0_pay5 x) (k0_pay6 x) w s (ix2 r c)
      = acc (ix2 r c) + (∑ l : Fin 128, kerCode (amax fun l => x (ix3 0 r l)) (x (ix3 0 r l)) * w (ix2 l c))
          * kerScale (amax fun l => x (ix3 0 r l)) * s (ix2 0 c) := by
  pointwise [k0_pay10, k0_pay7, k0_pay4]
  rw [exp_apply, scale_apply]
  rfl

/-! ## A group of a block -/

/-- The largest magnitude of group `g` of row `r` of a block. -/
def rowMax (x : Vec Ideal S1x256x3072 .bf16) (r : Fin 256) (g : Fin 24) : EReal := amax fun l => x (ix3 0 r (col g l))

theorem emb_rx (g : Fin 24) (r : Fin 256) (l : Fin 128) :
    (rx g).emb (ix3 0 r l) = (ix3 0 r (col g l) : S1x256x3072.Idx) := by
  funext a; apply Fin.ext
  match a with
  | ⟨0, _⟩ => rfl
  | ⟨1, _⟩ => show 0 + 1 * r.val = r.val; omega
  | ⟨2, _⟩ => show 128 * g.val + 1 * l.val = g.val * 128 + l.val; omega

theorem ld_x (x : Vec Ideal S1x256x3072 .bf16) (g : Fin 24) (r : Fin 256) (l : Fin 128) :
    View.ld x (rx g) (ix3 0 r l) = x (ix3 0 r (col g l)) := congrArg x (emb_rx g r l)

theorem max_ld (x : Vec Ideal S1x256x3072 .bf16) (g : Fin 24) (r : Fin 256) :
    (amax fun l => View.ld x (rx g) (ix3 0 r l)) = rowMax x r g := congrArg amax (funext fun l => ld_x x g r l)

theorem ld_w (w : Vec Ideal S3072x1152 .fp8e4m3) (g : Fin 24) (l : Fin 128) (c : Fin 1152) :
    View.ld w (rw g) (ix2 l c) = w (ix2 (col g l) c) := by
  refine congrArg w ?_
  funext a; apply Fin.ext
  match a with
  | ⟨0, _⟩ => show 128 * g.val + 1 * l.val = g.val * 128 + l.val; omega
  | ⟨1, _⟩ => show 0 + 1 * c.val = c.val; omega

theorem ld_s (s : Vec Ideal S24x1152 .f32) (g : Fin 24) (c : Fin 1152) :
    View.ld s (rs g) (ix2 0 c) = s (ix2 g c) := by
  refine congrArg s ?_
  funext a; apply Fin.ext
  match a with
  | ⟨0, _⟩ => show g.val + 1 * 0 = g.val; omega
  | ⟨1, _⟩ => show 0 + 1 * c.val = c.val; omega

/-- A rectangle holds the indices it embeds. -/
theorem emb_mem {s : Shape} (R : Rect s) (x : R.shape.Idx) : R.emb x ∈ R.set := by
  rw [← R.map_emb_univ]; exact Finset.mem_map_of_mem _ (Finset.mem_univ _)

/-! ## The codes -/

/-- The group of a column. -/
def grp (c : Fin 3072) : Fin 24 := ⟨c.val / 128, by have := c.isLt; omega⟩

/-- The place of a column in its group. -/
def place (c : Fin 3072) : Fin 128 := ⟨c.val % 128, Nat.mod_lt _ (by norm_num)⟩

theorem col_grp (c : Fin 3072) : col (grp c) (place c) = c := Fin.ext (Nat.div_add_mod' c.val 128)

theorem grp_col (g : Fin 24) (l : Fin 128) : grp (col g l) = g := by
  apply Fin.ext; show (g.val * 128 + l.val) / 128 = g.val; have := l.isLt; omega

/-- The block of codes at an index. -/
theorem codes_block (x0 : Vec Ideal S1x256x3072 .bf16) (x1 : Vec Ideal S3072x1152 .fp8e4m3)
    (x2 : Vec Ideal S24x1152 .f32) (x3 : Vec Ideal S1x1152 .f32) (r : Fin 256) (c : Fin 3072) :
    out0_5 x0 x1 x2 x3 (ix3 0 r c) = kerCode (rowMax x0 r (grp c)) (x0 (ix3 0 r c)) := by
  rw [out5_eq]
  refine View.canon_apply_of_pieces (Val := Elt Ideal) (e := .fp8e4m3)
    (fun y : S1x256x3072.Idx => kerCode (rowMax x0 (y 1) (grp (y 2))) (x0 (ix3 0 (y 1) (y 2)))) _ ?_ (ix3 0 r c) ?_
  · intro p hp x
    obtain ⟨g, -, rfl⟩ := List.mem_map.1 hp
    obtain ⟨r, l, rfl⟩ : ∃ (r : Fin 256) (l : Fin 128), x = ix3 0 r l :=
      ⟨x 1, x 2, by funext a; match a with
        | ⟨0, _⟩ => exact Subsingleton.elim (α := Fin 1) _ _
        | ⟨1, _⟩ => rfl
        | ⟨2, _⟩ => rfl⟩
    show codes (View.ld x0 (rx g)) (ix3 0 r l) = _
    rw [emb_rx]
    show _ = kerCode (rowMax x0 r (grp (col g l))) (x0 (ix3 0 r (col g l)))
    rw [grp_col]
    exact (code_apply _ r l).trans (congrArg₂ kerCode (max_ld x0 g r) (ld_x x0 g r l))
  · refine ⟨⟨rx (grp c), codes (View.ld x0 (rx (grp c)))⟩,
      List.mem_map.2 ⟨grp c, List.mem_reverse.2 (List.mem_finRange _), rfl⟩, ?_⟩
    have := emb_mem (rx (grp c)) (ix3 0 r (place c))
    rwa [emb_rx, col_grp] at this

/-! ## The scales -/

theorem scaleStep_apply (x0 : Vec Ideal S1x256x3072 .bf16) (acc : FVec Ideal S256x24 .f32) (g k : Fin 24) (r : Fin 256) :
    scaleStep x0 acc g (ix2 r k) = if k = g then kerScale (rowMax x0 r g) else acc (ix2 r k) := by
  pointwise [scaleStep]
  have hc : ∀ k g : Fin 24, IntOp.cmpi .eq (BitVec.ofNat 32 k.val) (BitVec.ofNat 32 g.val)
      = BitVec.ofBool (decide (k = g)) := by decide
  have hs : k0_pay6 (View.ld x0 (rx g)) (ix2 r 0) = kerScale (rowMax x0 r g) :=
    (scale_apply _ r).trans (congrArg kerScale (max_ld x0 g r))
  rw [hc, hs]
  by_cases h : k = g
  · rw [if_pos h, decide_eq_true h]; rfl
  · rw [if_neg h, decide_eq_false h]; rfl

theorem scales_apply (x0 : Vec Ideal S1x256x3072 .bf16) (n : ℕ) (hn : n ≤ 24) (k : Fin 24) (hk : k.val < n)
    (r : Fin 256) : scales x0 n (ix2 r k) = kerScale (rowMax x0 r k) := by
  induction n with
  | zero => omega
  | succ n ih =>
    show scaleStep x0 (scales x0 n) (Fin.ofNat 24 n) (ix2 r k) = _
    rw [scaleStep_apply]
    by_cases h : k = Fin.ofNat 24 n
    · rw [if_pos h, h]
    · rw [if_neg h]
      refine ih (by omega) ?_
      have : (Fin.ofNat 24 n).val = n := Nat.mod_eq_of_lt (by omega)
      have : k.val ≠ n := fun e => h (Fin.ext (e.trans this.symm))
      omega

theorem hz3 : (![0, 0, 0] : Fin 3 → Nat) = fun _ => 0 := funext fun a => by fin_cases a <;> rfl

/-- The block of scales at an index. -/
theorem scales_block (x0 : Vec Ideal S1x256x3072 .bf16) (x1 : Vec Ideal S3072x1152 .fp8e4m3)
    (x2 : Vec Ideal S24x1152 .f32) (x3 : Vec Ideal S1x1152 .f32) (g : Fin 24) (r : Fin 256) :
    out0_6 x0 x1 x2 x3 (ix3 0 g r) = kerScale (rowMax x0 r g) := by
  rw [out6_eq, View.canon_unit_zero hz3, ← scales_apply x0 24 le_rfl g g.isLt r]
  generalize scales x0 24 = s
  pointwise

/-! ## The sum -/

/-- Group `g`'s share of the element at row `r`, column `c`. -/
def share (x0 : Vec Ideal S1x256x3072 .bf16) (x1 : Vec Ideal S3072x1152 .fp8e4m3) (x2 : Vec Ideal S24x1152 .f32)
    (r : Fin 256) (c : Fin 1152) (g : Fin 24) : EReal :=
  (∑ l : Fin 128, kerCode (rowMax x0 r g) (x0 (ix3 0 r (col g l))) * x1 (ix2 (col g l) c))
    * kerScale (rowMax x0 r g) * x2 (ix2 g c)

theorem accStep_apply (x0 : Vec Ideal S1x256x3072 .bf16) (x1 : Vec Ideal S3072x1152 .fp8e4m3)
    (x2 : Vec Ideal S24x1152 .f32) (acc : FVec Ideal S256x1152 .f32) (g : Fin 24) (r : Fin 256) (c : Fin 1152) :
    accStep x0 x1 x2 acc g (ix2 r c) = acc (ix2 r c) + share x0 x1 x2 r c g := by
  refine (share_apply acc _ _ _ r c).trans (congrArg (acc (ix2 r c) + ·) ?_)
  exact congrArg₂ (· * ·) (congrArg₂ (· * ·) (Finset.sum_congr rfl fun l _ => congrArg₂ (· * ·)
    (congrArg₂ kerCode (max_ld x0 g r) (ld_x x0 g r l)) (ld_w x1 g l c)) (congrArg kerScale (max_ld x0 g r)))
    (ld_s x2 g c)

theorem accs_apply (x0 : Vec Ideal S1x256x3072 .bf16) (x1 : Vec Ideal S3072x1152 .fp8e4m3)
    (x2 : Vec Ideal S24x1152 .f32) (n : ℕ) (r : Fin 256) (c : Fin 1152) :
    accs x0 x1 x2 n (ix2 r c) = ∑ k ∈ Finset.range n, share x0 x1 x2 r c (Fin.ofNat 24 k) := by
  induction n with
  | zero =>
    show k0_pay2 (F := Ideal) (ix2 r c) = _
    pointwise [k0_pay2]
    rw [Finset.range_zero, Finset.sum_empty]
  | succ n ih =>
    show accStep x0 x1 x2 (accs x0 x1 x2 n) (Fin.ofNat 24 n) (ix2 r c) = _
    rw [accStep_apply, ih, Finset.sum_range_succ]

theorem total_apply (x0 : Vec Ideal S1x256x3072 .bf16) (x1 : Vec Ideal S3072x1152 .fp8e4m3)
    (x2 : Vec Ideal S24x1152 .f32) (x3 : Vec Ideal S1x1152 .f32) (r : Fin 256) (c : Fin 1152) :
    total x0 x1 x2 x3 (ix2 r c) = (∑ g : Fin 24, share x0 x1 x2 r c g) + x3 (ix2 0 c) := by
  have h := accs_apply x0 x1 x2 24 r c
  rw [← Fin.sum_univ_eq_sum_range (fun k => share x0 x1 x2 r c (Fin.ofNat 24 k))] at h
  simp only [Fin.ofNat_eq_cast, Fin.cast_val_eq_self] at h
  rw [total]
  generalize accs x0 x1 x2 24 = acc at h ⊢
  rw [← h]
  pointwise

theorem emb_ry (q : Fin 9) (a : Fin 32) (b : Fin 8) (l : Fin 128) :
    (ry q).emb (ix5 0 a 0 b l) = (ix5 0 a q b l : S1x32x9x8x128.Idx) := by
  funext i; apply Fin.ext
  match i with
  | ⟨0, _⟩ => rfl
  | ⟨1, _⟩ => show 0 + 1 * a.val = a.val; omega
  | ⟨2, _⟩ => show q.val + 1 * 0 = q.val; omega
  | ⟨3, _⟩ => show 0 + 1 * b.val = b.val; omega
  | ⟨4, _⟩ => show 0 + 1 * l.val = l.val; omega

/-- Row `8 a + b` of a block. -/
def row8 (a : Fin 32) (b : Fin 8) : Fin 256 := ⟨a.val * 8 + b.val, by have := a.isLt; have := b.isLt; omega⟩

/-- Column `128 q + l` of `y`. -/
def ycol (q : Fin 9) (l : Fin 128) : Fin 1152 := ⟨128 * q.val + l.val, by have := q.isLt; have := l.isLt; omega⟩

theorem yPiece_apply (t : FVec Ideal S256x1152 .f32) (q : Fin 9) (a : Fin 32) (b : Fin 8) (l : Fin 128) :
    yPiece t q (ix5 0 a 0 b l) = t (ix2 (row8 a b) (ycol q l)) := by
  pointwise [yPiece, row8, ycol]

/-- The block of `y` at an index. -/
theorem y_block (x0 : Vec Ideal S1x256x3072 .bf16) (x1 : Vec Ideal S3072x1152 .fp8e4m3)
    (x2 : Vec Ideal S24x1152 .f32) (x3 : Vec Ideal S1x1152 .f32) (a : Fin 32) (q : Fin 9) (b : Fin 8) (l : Fin 128) :
    out0_4 x0 x1 x2 x3 (ix5 0 a q b l)
      = (∑ g : Fin 24, share x0 x1 x2 (row8 a b) (ycol q l) g) + x3 (ix2 0 (ycol q l)) := by
  rw [out4_eq, ← total_apply]
  generalize total x0 x1 x2 x3 = t
  refine View.canon_apply_of_pieces (Val := Elt Ideal) (e := .bf16)
    (fun y : S1x32x9x8x128.Idx => t (ix2 (row8 (y 1) (y 3)) (ycol (y 2) (y 4)))) _ ?_ (ix5 0 a q b l) ?_
  · intro p hp x
    obtain ⟨q, -, rfl⟩ := List.mem_map.1 hp
    obtain ⟨a, b, l, rfl⟩ : ∃ (a : Fin 32) (b : Fin 8) (l : Fin 128), x = ix5 0 a 0 b l :=
      ⟨x 1, x 3, x 4, by funext i; match i with
        | ⟨0, _⟩ => exact Subsingleton.elim (α := Fin 1) _ _
        | ⟨1, _⟩ => rfl
        | ⟨2, _⟩ => exact Subsingleton.elim (α := Fin 1) _ _
        | ⟨3, _⟩ => rfl
        | ⟨4, _⟩ => rfl⟩
    show yPiece t q (ix5 0 a 0 b l) = _
    rw [emb_ry, yPiece_apply]
    rfl
  · refine ⟨⟨ry q, yPiece t q⟩, List.mem_map.2 ⟨q, List.mem_reverse.2 (List.mem_finRange _), rfl⟩, ?_⟩
    have := emb_mem (ry q) (ix5 0 a 0 b l)
    rwa [emb_ry] at this

end Cert.KernelIdeal.Block
-- ==== Proof.KernelRun.lean ====
/- What the kernel's three output arrays hold after the grid has run, each element as a function of the arrays that the
   region reads. Grid point `t` is row block `t % 32` of batch `t / 32`: it computes 256 rows. -/
module

public import proofs.«01_k».proof.Proof.BlockValues
public import Idealize.ShloMosaic.Lib.Pipeline.Value

@[expose] public section

noncomputable section

namespace Cert.KernelIdeal.Run

open Cert.KernelIdeal Cert.KernelIdeal.Gen Cert.KernelIdeal.Block Cert.Quant
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The results as functions of the arrays read -/

/-- The largest magnitude of group `g` of row `r` of batch `b`. -/
def groupMax (x : Vec Ideal S4x8192x3072 .bf16) (b : Fin 4) (r : Fin 8192) (g : Fin 24) : EReal :=
  amax fun l => x (ix3 b r (col g l))

/-- An element of the codes. -/
def codeAt (x : Vec Ideal S4x8192x3072 .bf16) (b : Fin 4) (r : Fin 8192) (c : Fin 3072) : EReal :=
  kerCode (groupMax x b r (grp c)) (x (ix3 b r c))

/-- An element of `y`, from the scales and the bias as the region reads them. -/
def yAt (x : Vec Ideal S4x8192x3072 .bf16) (w : Vec Ideal S3072x1152 .fp8e4m3) (s : Vec Ideal S24x1152 .f32)
    (v : Vec Ideal S1x1152 .f32) (b : Fin 4) (r : Fin 8192) (c : Fin 1152) : EReal :=
  (∑ g : Fin 24, (∑ l : Fin 128, kerCode (groupMax x b r g) (x (ix3 b r (col g l))) * w (ix2 (col g l) c))
    * kerScale (groupMax x b r g) * s (ix2 g c)) + v (ix2 0 c)

/-- Row `8 a + d`. -/
def row (a : Fin 1024) (d : Fin 8) : Fin 8192 := ⟨a.val * 8 + d.val, by have := a.isLt; have := d.isLt; omega⟩

/-- The array of `y`, by batch, row block of 8, column block of 128, row and column. -/
def Y (x : Vec Ideal S4x8192x3072 .bf16) (w : Vec Ideal S3072x1152 .fp8e4m3) (s : Vec Ideal S24x1152 .f32)
    (v : Vec Ideal S1x1152 .f32) : Vec Ideal S4x1024x9x8x128 .bf16 :=
  fun i => yAt x w s v (i 0) (row (i 1) (i 3)) (ycol (i 2) (i 4))

/-- The array of codes. -/
def Q (x : Vec Ideal S4x8192x3072 .bf16) : Vec Ideal S4x8192x3072 .fp8e4m3 :=
  fun i => codeAt x (i 0) (i 1) (i 2)

/-- The array of scales, group before row. -/
def S (x : Vec Ideal S4x8192x3072 .bf16) : Vec Ideal S4x24x8192 .f32 :=
  fun i => kerScale (groupMax x (i 0) (i 2) (i 1))

/-! ## The blocks of a grid point -/

/-- The batch of a grid point. -/
def bat (t : Fin cfg0.N) : Fin 4 := ⟨t.val / 32, by have : t.val < 128 := t.isLt; omega⟩

/-- Row `r` of a grid point's block. -/
def rowOf (t : Fin cfg0.N) (r : Fin 256) : Fin 8192 := ⟨t.val % 32 * 256 + r.val, by have := r.isLt; omega⟩

theorem idx0 : ∀ t : Fin cfg0.N, win0_0.index t (0 : Fin 3) = t.val / 32 ∧ win0_0.index t (1 : Fin 3) = t.val % 32
    ∧ win0_0.index t (2 : Fin 3) = 0 := (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 5) = t.val / 32 ∧ win0_4.index t (1 : Fin 5) = t.val % 32
    ∧ win0_4.index t (2 : Fin 5) = 0 ∧ win0_4.index t (3 : Fin 5) = 0 ∧ win0_4.index t (4 : Fin 5) = 0 :=
  (by decide +kernel : ∀ t : Fin grid0.N, _)
theorem idx5 : ∀ t : Fin cfg0.N, win0_5.index t (0 : Fin 3) = t.val / 32 ∧ win0_5.index t (1 : Fin 3) = t.val % 32
    ∧ win0_5.index t (2 : Fin 3) = 0 := (by decide +kernel : ∀ t : Fin grid0.N, _)
theorem idx6 : ∀ t : Fin cfg0.N, win0_6.index t (0 : Fin 3) = t.val / 32 ∧ win0_6.index t (1 : Fin 3) = 0
    ∧ win0_6.index t (2 : Fin 3) = t.val % 32 := (by decide +kernel : ∀ t : Fin grid0.N, _)

/-- The block of `x` at a point. -/
theorem iblk0_apply (c : Dev nD) (t : Fin cfg0.N) (r : Fin 256) (k : Fin 3072) :
    (iblk m c 0 t : Vec Ideal S1x256x3072 .bf16) (ix3 0 r k)
      = (V m c main_arg0 : Vec Ideal S4x8192x3072 .bf16) (ix3 (bat t) (rowOf t r) k) := by
  obtain ⟨e0, e1, e2⟩ := idx0 t
  refine congrArg (V m c main_arg0 : Vec Ideal S4x8192x3072 .bf16) ?_
  funext a; apply Fin.ext
  match a with
  | ⟨0, _⟩ => show win0_0.index t (0 : Fin 3) * 1 + 1 * 0 = t.val / 32; omega
  | ⟨1, _⟩ => show win0_0.index t (1 : Fin 3) * 256 + 1 * r.val = t.val % 32 * 256 + r.val; omega
  | ⟨2, _⟩ => show win0_0.index t (2 : Fin 3) * 3072 + 1 * k.val = k.val; omega

/-- The block of the weights is the whole array. -/
theorem iblk1_eq (c : Dev nD) (t : Fin cfg0.N) : iblk m c 1 t = V m c main_arg1 := by
  obtain ⟨e0, e1⟩ := idx1 t
  funext j
  refine congrArg (V m c main_arg1 : Vec Ideal S3072x1152 .fp8e4m3) ?_
  funext a; apply Fin.ext
  match a with
  | ⟨0, _⟩ => show win0_1.index t (0 : Fin 2) * 3072 + 1 * (j 0).val = (j 0).val; omega
  | ⟨1, _⟩ => show win0_1.index t (1 : Fin 2) * 1152 + 1 * (j 1).val = (j 1).val; omega

/-- The block of the weight scales is the whole array. -/
theorem iblk2_eq (c : Dev nD) (t : Fin cfg0.N) : iblk m c 2 t = V m c main_v1 := by
  obtain ⟨e0, e1⟩ := idx2 t
  funext j
  refine congrArg (V m c main_v1 : Vec Ideal S24x1152 .f32) ?_
  funext a; apply Fin.ext
  match a with
  | ⟨0, _⟩ => show win0_2.index t (0 : Fin 2) * 24 + 1 * (j 0).val = (j 0).val; omega
  | ⟨1, _⟩ => show win0_2.index t (1 : Fin 2) * 1152 + 1 * (j 1).val = (j 1).val; omega

/-- The block of the bias is the whole array. -/
theorem iblk3_eq (c : Dev nD) (t : Fin cfg0.N) : iblk m c 3 t = V m c main_v2 := by
  obtain ⟨e0, e1⟩ := idx3 t
  funext j
  refine congrArg (V m c main_v2 : Vec Ideal S1x1152 .f32) ?_
  funext a; apply Fin.ext
  match a with
  | ⟨0, _⟩ => show win0_3.index t (0 : Fin 2) * 1 + 1 * (j 0).val = (j 0).val; omega
  | ⟨1, _⟩ => show win0_3.index t (1 : Fin 2) * 1152 + 1 * (j 1).val = (j 1).val; omega

/-- A row's largest magnitude in a group, in the block and in the array. -/
theorem rowMax_eq (c : Dev nD) (t : Fin cfg0.N) (r : Fin 256) (g : Fin 24) :
    rowMax (iblk m c 0 t) r g = groupMax (V m c main_arg0) (bat t) (rowOf t r) g :=
  congrArg amax (funext fun l => iblk0_apply m c t r (col g l))

/-- A group's share of an element of `y`, in the block and in the array. -/
theorem share_eq (c : Dev nD) (t : Fin cfg0.N) (w : Vec Ideal S3072x1152 .fp8e4m3) (s : Vec Ideal S24x1152 .f32)
    (r : Fin 256) (k : Fin 1152) (g : Fin 24) :
    share (iblk m c 0 t) w s r k g
      = (∑ l : Fin 128, kerCode (groupMax (V m c main_arg0) (bat t) (rowOf t r) g)
            ((V m c main_arg0 : Vec Ideal S4x8192x3072 .bf16) (ix3 (bat t) (rowOf t r) (col g l))) * w (ix2 (col g l) k))
          * kerScale (groupMax (V m c main_arg0) (bat t) (rowOf t r) g) * s (ix2 g k) := by
  unfold share
  rw [rowMax_eq m c t r g]
  refine congrArg (· * _ * s (ix2 g k)) (Finset.sum_congr rfl fun l _ => ?_)
  rw [iblk0_apply m c t r (col g l)]

/-! ## Where a block's index lies in its array -/

theorem emb4 (t : Fin cfg0.N) (a : Fin 32) (q : Fin 9) (d : Fin 8) (l : Fin 128) :
    ((cfg0.win 4).blk t).view.emb (ix5 0 a q d l : S1x32x9x8x128.Idx)
      = (ix5 (bat t) ⟨t.val % 32 * 32 + a.val, by have := a.isLt; omega⟩ q d l : S4x1024x9x8x128.Idx) := by
  obtain ⟨e0, e1, e2, e3, e4⟩ := idx4 t
  funext i; apply Fin.ext
  match i with
  | ⟨0, _⟩ => show win0_4.index t (0 : Fin 5) * 1 + 1 * 0 = t.val / 32; omega
  | ⟨1, _⟩ => show win0_4.index t (1 : Fin 5) * 32 + 1 * a.val = t.val % 32 * 32 + a.val; omega
  | ⟨2, _⟩ => show win0_4.index t (2 : Fin 5) * 9 + 1 * q.val = q.val; omega
  | ⟨3, _⟩ => show win0_4.index t (3 : Fin 5) * 8 + 1 * d.val = d.val; omega
  | ⟨4, _⟩ => show win0_4.index t (4 : Fin 5) * 128 + 1 * l.val = l.val; omega

theorem emb5 (t : Fin cfg0.N) (r : Fin 256) (k : Fin 3072) :
    ((cfg0.win 5).blk t).view.emb (ix3 0 r k : S1x256x3072.Idx) = (ix3 (bat t) (rowOf t r) k : S4x8192x3072.Idx) := by
  obtain ⟨e0, e1, e2⟩ := idx5 t
  funext i; apply Fin.ext
  match i with
  | ⟨0, _⟩ => show win0_5.index t (0 : Fin 3) * 1 + 1 * 0 = t.val / 32; omega
  | ⟨1, _⟩ => show win0_5.index t (1 : Fin 3) * 256 + 1 * r.val = t.val % 32 * 256 + r.val; omega
  | ⟨2, _⟩ => show win0_5.index t (2 : Fin 3) * 3072 + 1 * k.val = k.val; omega

theorem emb6 (t : Fin cfg0.N) (g : Fin 24) (r : Fin 256) :
    ((cfg0.win 6).blk t).view.emb (ix3 0 g r : S1x24x256.Idx) = (ix3 (bat t) g (rowOf t r) : S4x24x8192.Idx) := by
  obtain ⟨e0, e1, e2⟩ := idx6 t
  funext i; apply Fin.ext
  match i with
  | ⟨0, _⟩ => show win0_6.index t (0 : Fin 3) * 1 + 1 * 0 = t.val / 32; omega
  | ⟨1, _⟩ => show win0_6.index t (1 : Fin 3) * 24 + 1 * g.val = g.val; omega
  | ⟨2, _⟩ => show win0_6.index t (2 : Fin 3) * 256 + 1 * r.val = t.val % 32 * 256 + r.val; omega

/-- An index whose first axis has one element. -/
theorem ix3_of {n k : Nat} (y : (Shape.Idx ⟨3, ![1, n, k]⟩)) : ∃ (r : Fin n) (l : Fin k), y = ix3 0 r l :=
  ⟨y 1, y 2, by funext a; match a with
    | ⟨0, _⟩ => exact Subsingleton.elim (α := Fin 1) _ _
    | ⟨1, _⟩ => rfl
    | ⟨2, _⟩ => rfl⟩

/-! ## What a point writes back -/

/-- A point writes back its block of `Y`. -/
theorem flushed4 (c : Dev nD) (t : Fin cfg0.N) :
    (dats m 0 c).flushed 4 t = ((cfg0.win 4).blk t).view.read (Elt Ideal)
      (Y (V m c main_arg0) (V m c main_arg1) (V m c main_v1) (V m c main_v2)) := by
  show (cfg0.win 4).cut (grid0.coords t) ((dats m 0 c).after 4 t) = _
  rw [after0_4, iblk1_eq, iblk2_eq, iblk3_eq]
  funext j
  obtain ⟨a, q, d, l, rfl⟩ : ∃ (a : Fin 32) (q : Fin 9) (d : Fin 8) (l : Fin 128), j = (ix5 0 a q d l : S1x32x9x8x128.Idx) :=
    ⟨j 1, j 2, j 3, j 4, by funext i; match i with
      | ⟨0, _⟩ => exact Subsingleton.elim (α := Fin 1) _ _
      | ⟨1, _⟩ => rfl
      | ⟨2, _⟩ => rfl
      | ⟨3, _⟩ => rfl
      | ⟨4, _⟩ => rfl⟩
  refine (y_block (iblk m c 0 t) (V m c main_arg1) (V m c main_v1) (V m c main_v2) a q d l).trans ?_
  show _ = Y (V m c main_arg0) (V m c main_arg1) (V m c main_v1) (V m c main_v2)
    (((cfg0.win 4).blk t).view.emb (ix5 0 a q d l : S1x32x9x8x128.Idx))
  rw [emb4]
  show _ = yAt (V m c main_arg0) (V m c main_arg1) (V m c main_v1) (V m c main_v2) (bat t) (row ⟨t.val % 32 * 32 + a.val, _⟩ d) (ycol q l)
  have hr : row ⟨t.val % 32 * 32 + a.val, by have := a.isLt; omega⟩ d = rowOf t (row8 a d) :=
    Fin.ext (by show (t.val % 32 * 32 + a.val) * 8 + d.val = t.val % 32 * 256 + (a.val * 8 + d.val); omega)
  rw [hr]
  exact congrArg (· + _) (Finset.sum_congr rfl fun g _ => share_eq m c t _ _ (row8 a d) (ycol q l) g)

/-- A point writes back its block of `Q`. -/
theorem flushed5 (c : Dev nD) (t : Fin cfg0.N) :
    (dats m 0 c).flushed 5 t = ((cfg0.win 5).blk t).view.read (Elt Ideal) (Q (V m c main_arg0)) := by
  show (cfg0.win 5).cut (grid0.coords t) ((dats m 0 c).after 5 t) = _
  rw [after0_5]
  funext j
  obtain ⟨r, k, rfl⟩ := ix3_of (n := 256) (k := 3072) j
  refine (codes_block (iblk m c 0 t) (iblk m c 1 t) (iblk m c 2 t) (iblk m c 3 t) r k).trans ?_
  show _ = Q (V m c main_arg0) (((cfg0.win 5).blk t).view.emb (ix3 0 r k : S1x256x3072.Idx))
  rw [emb5]
  exact congrArg₂ kerCode (rowMax_eq m c t r (grp k)) (iblk0_apply m c t r k)

/-- A point writes back its block of `S`. -/
theorem flushed6 (c : Dev nD) (t : Fin cfg0.N) :
    (dats m 0 c).flushed 6 t = ((cfg0.win 6).blk t).view.read (Elt Ideal) (S (V m c main_arg0)) := by
  show (cfg0.win 6).cut (grid0.coords t) ((dats m 0 c).after 6 t) = _
  rw [after0_6]
  funext j
  obtain ⟨g, r, rfl⟩ := ix3_of (n := 24) (k := 256) j
  refine (scales_block (iblk m c 0 t) (iblk m c 1 t) (iblk m c 2 t) (iblk m c 3 t) g r).trans ?_
  show _ = S (V m c main_arg0) (((cfg0.win 6).blk t).view.emb (ix3 0 g r : S1x24x256.Idx))
  rw [emb6]
  exact congrArg kerScale (rowMax_eq m c t r g)

/-! ## The points cover the arrays -/

/-- The grid point of a row of a batch. -/
def pointOf (b : Fin 4) (r : Fin 8192) : Fin cfg0.N :=
  ⟨b.val * 32 + r.val / 256, by show _ < 128; have := b.isLt; have := r.isLt; omega⟩

/-- The row inside the block. -/
def inside (r : Fin 8192) : Fin 256 := ⟨r.val % 256, Nat.mod_lt _ (by norm_num)⟩

theorem bat_pointOf (b : Fin 4) (r : Fin 8192) : bat (pointOf b r) = b :=
  Fin.ext (by show (b.val * 32 + r.val / 256) / 32 = b.val; have := r.isLt; omega)

theorem rowOf_pointOf (b : Fin 4) (r : Fin 8192) : rowOf (pointOf b r) (inside r) = r :=
  Fin.ext (by show (b.val * 32 + r.val / 256) % 32 * 256 + r.val % 256 = r.val; have := r.isLt; omega)

theorem covered4 (i : S4x1024x9x8x128.Idx) :
    ∃ t : Fin cfg0.N, (cfg0.win 4).flush t = true ∧ i ∈ ((cfg0.win 4).blk t).view.set := by
  obtain ⟨b, a, q, d, l, rfl⟩ : ∃ (b : Fin 4) (a : Fin 1024) (q : Fin 9) (d : Fin 8) (l : Fin 128),
      i = (ix5 b a q d l : S4x1024x9x8x128.Idx) :=
    ⟨i 0, i 1, i 2, i 3, i 4, by funext k; match k with
      | ⟨0, _⟩ => rfl
      | ⟨1, _⟩ => rfl
      | ⟨2, _⟩ => rfl
      | ⟨3, _⟩ => rfl
      | ⟨4, _⟩ => rfl⟩
  refine ⟨pointOf b (row a d), flush0_4 _, ?_⟩
  have h := ((cfg0.win 4).blk (pointOf b (row a d))).view.emb_mem_set
    (ix5 0 (⟨a.val % 32, Nat.mod_lt _ (by norm_num)⟩ : Fin 32) q d l : S1x32x9x8x128.Idx)
  rw [emb4, bat_pointOf] at h
  have ha : (⟨(pointOf b (row a d)).val % 32 * 32 + a.val % 32, by omega⟩ : Fin 1024) = a :=
    Fin.ext (by
      show (b.val * 32 + (a.val * 8 + d.val) / 256) % 32 * 32 + a.val % 32 = a.val
      have := a.isLt; have := d.isLt; omega)
  rw [ha] at h
  exact h

theorem covered5 (i : S4x8192x3072.Idx) :
    ∃ t : Fin cfg0.N, (cfg0.win 5).flush t = true ∧ i ∈ ((cfg0.win 5).blk t).view.set := by
  obtain ⟨b, r, k, rfl⟩ : ∃ (b : Fin 4) (r : Fin 8192) (k : Fin 3072), i = (ix3 b r k : S4x8192x3072.Idx) :=
    ⟨i 0, i 1, i 2, by funext a; match a with
      | ⟨0, _⟩ => rfl
      | ⟨1, _⟩ => rfl
      | ⟨2, _⟩ => rfl⟩
  refine ⟨pointOf b r, flush0_5 _, ?_⟩
  have h := ((cfg0.win 5).blk (pointOf b r)).view.emb_mem_set (ix3 0 (inside r) k : S1x256x3072.Idx)
  rw [emb5, bat_pointOf, rowOf_pointOf] at h
  exact h

theorem covered6 (i : S4x24x8192.Idx) :
    ∃ t : Fin cfg0.N, (cfg0.win 6).flush t = true ∧ i ∈ ((cfg0.win 6).blk t).view.set := by
  obtain ⟨b, g, r, rfl⟩ : ∃ (b : Fin 4) (g : Fin 24) (r : Fin 8192), i = (ix3 b g r : S4x24x8192.Idx) :=
    ⟨i 0, i 1, i 2, by funext a; match a with
      | ⟨0, _⟩ => rfl
      | ⟨1, _⟩ => rfl
      | ⟨2, _⟩ => rfl⟩
  refine ⟨pointOf b r, flush0_6 _, ?_⟩
  have h := ((cfg0.win 6).blk (pointOf b r)).view.emb_mem_set (ix3 0 g (inside r) : S1x24x256.Idx)
  rw [emb6, bat_pointOf, rowOf_pointOf] at h
  exact h

/-! ## The arrays after the grid -/

theorem final4 (c : Dev nD) : (dats m 0 c).arrAt 4 cfg0.N
    = Y (V m c main_arg0) (V m c main_arg1) (V m c main_v1) (V m c main_v2) :=
  (dats m 0 c).arrAt_eq_of_cover 4 _ (fun t _ => flushed4 m c t) covered4

theorem final5 (c : Dev nD) : (dats m 0 c).arrAt 5 cfg0.N = Q (V m c main_arg0) :=
  (dats m 0 c).arrAt_eq_of_cover 5 _ (fun t _ => flushed5 m c t) covered5

theorem final6 (c : Dev nD) : (dats m 0 c).arrAt 6 cfg0.N = S (V m c main_arg0) :=
  (dats m 0 c).arrAt_eq_of_cover 6 _ (fun t _ => flushed6 m c t) covered6

end Cert.KernelIdeal.Run
-- ==== Proof.KernelResults.lean ====
/- What the kernel's three results hold after the whole run, from its arguments: the host's spreading of the weight scales
   before the grid, the grid's arrays, and the host's reordering of `y` and of the scales after it. -/
module

public import proofs.«01_k».proof.Proof.KernelRun

@[expose] public section

noncomputable section

namespace Cert.KernelIdeal.Run

open Cert.KernelIdeal Cert.KernelIdeal.Gen Cert.KernelIdeal.Block Cert.Quant
open Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## Before the grid -/

/-- The weight scales, one per group and column. -/
def spread (s : Vec Ideal S24x9 .f32) : Vec Ideal S24x1152 .f32 :=
  shapeCast S24x1152 (broadcastInDim S24x9x128 ![0, 1] bcast_S24x9_S24x9x128_0_1 s) shapeCasts_S24x9x128_S24x1152

/-- The bias as one row. -/
def biasRow (v : Vec Ideal S1152 .f32) : Vec Ideal S1x1152 .f32 := shapeCast S1x1152 v shapeCasts_S1152_S1x1152

theorem V_main_v1 (c : Dev nD) : V m c main_v1 = spread (m ((c : Thread nD τ).loc main_arg2)) := by
  show StableHlo.after [_, _, _] _ _ = _
  after_results
  rfl

theorem V_main_v2 (c : Dev nD) : V m c main_v2 = biasRow (m ((c : Thread nD τ).loc main_arg3)) := by
  show StableHlo.after [_, _, _] _ _ = _
  after_results
  rfl

theorem spread_apply (s : Vec Ideal S24x9 .f32) (g : Fin 24) (c : Fin 1152) :
    spread s (ix2 g c) = s (ix2 g ⟨c.val / 128, by have := c.isLt; omega⟩) := by
  pointwise [spread]

theorem biasRow_apply (v : Vec Ideal S1152 .f32) (c : Fin 1152) : biasRow v (ix2 0 c) = v (ix1 c) := by
  pointwise [biasRow]

/-! ## After the grid -/

/-- `y` in the order of its result. -/
def unfoldY (y : Vec Ideal S4x1024x9x8x128 .bf16) : Vec Ideal S4x8192x1152 .bf16 :=
  shapeCast S4x8192x1152 (transpose S4x1024x8x9x128 [0, 1, 3, 2, 4] y transposes_S4x1024x9x8x128_S4x1024x8x9x128_0_1_3_2_4)
    shapeCasts_S4x1024x8x9x128_S4x8192x1152

/-- The scales, row before group. -/
def flipS (s : Vec Ideal S4x24x8192 .f32) : Vec Ideal S4x8192x24 .f32 :=
  transpose S4x8192x24 [0, 2, 1] s transposes_S4x24x8192_S4x8192x24_0_2_1

theorem unfoldY_apply (y : Vec Ideal S4x1024x9x8x128 .bf16) (b : Fin 4) (r : Fin 8192) (c : Fin 1152) :
    unfoldY y (ix3 b r c) = y (ix5 b (⟨r.val / 8, by have := r.isLt; omega⟩ : Fin 1024)
      (⟨c.val / 128, by have := c.isLt; omega⟩ : Fin 9) (⟨r.val % 8, Nat.mod_lt _ (by norm_num)⟩ : Fin 8)
      (⟨c.val % 128, Nat.mod_lt _ (by norm_num)⟩ : Fin 128)) := by
  pointwise [unfoldY]

theorem flipS_apply (s : Vec Ideal S4x24x8192 .f32) (b : Fin 4) (r : Fin 8192) (g : Fin 24) :
    flipS s (ix3 b r g) = s (ix3 b g r) := by
  pointwise [flipS]

theorem W_main_v5 (c : Dev nD) : Pipeline.afterTail₀ cfgs (dats m) 0 (V0 m) [hostOps1] c main_v5
    = unfoldY ((dats m 0 c).arrAt 4 cfg0.N) := by
  unfold Pipeline.afterTail₀
  show StableHlo.after [_, _, _] _ _ = _
  after_results
  exact congrArg unfoldY (Pipeline.withArrays_arr spec0 winFacts0.arr_inj c (V0 m c)
    (fun w => (dats m 0 c).arrAt w cfg0.N) 4)

theorem W_main_v6 (c : Dev nD) : Pipeline.afterTail₀ cfgs (dats m) 0 (V0 m) [hostOps1] c main_v6
    = flipS ((dats m 0 c).arrAt 6 cfg0.N) := by
  unfold Pipeline.afterTail₀
  show StableHlo.after [_, _, _] _ _ = _
  after_results
  exact congrArg flipS (Pipeline.withArrays_arr spec0 winFacts0.arr_inj c (V0 m c)
    (fun w => (dats m 0 c).arrAt w cfg0.N) 6)

/-! ## The run -/

/-- The first result, from the arguments. -/
def result0 (x : Vec Ideal S4x8192x3072 .bf16) (w : Vec Ideal S3072x1152 .fp8e4m3) (s : Vec Ideal S24x9 .f32)
    (v : Vec Ideal S1152 .f32) : Vec Ideal S4x8192x1152 .bf16 := unfoldY (Y x w (spread s) (biasRow v))

/-- The third result, from the argument `x`. -/
def result2 (x : Vec Ideal S4x8192x3072 .bf16) : Vec Ideal S4x8192x24 .f32 := flipS (S x)

/-- An element of the first result. -/
theorem result0_apply (x : Vec Ideal S4x8192x3072 .bf16) (w : Vec Ideal S3072x1152 .fp8e4m3) (s : Vec Ideal S24x9 .f32)
    (v : Vec Ideal S1152 .f32) (b : Fin 4) (r : Fin 8192) (c : Fin 1152) :
    result0 x w s v (ix3 b r c)
      = (∑ g : Fin 24, (∑ l : Fin 128, kerCode (groupMax x b r g) (x (ix3 b r (col g l))) * w (ix2 (col g l) c))
          * kerScale (groupMax x b r g) * s (ix2 g ⟨c.val / 128, by have := c.isLt; omega⟩)) + v (ix1 c) := by
  rw [result0, unfoldY_apply]
  show yAt x w (spread s) (biasRow v) b (row ⟨r.val / 8, _⟩ ⟨r.val % 8, _⟩) (ycol ⟨c.val / 128, _⟩ ⟨c.val % 128, _⟩) = _
  rw [show row ⟨r.val / 8, by have := r.isLt; omega⟩ ⟨r.val % 8, Nat.mod_lt _ (by norm_num)⟩ = r from
      Fin.ext (Nat.div_add_mod' r.val 8),
    show ycol ⟨c.val / 128, by have := c.isLt; omega⟩ ⟨c.val % 128, Nat.mod_lt _ (by norm_num)⟩ = c from
      Fin.ext (Nat.div_add_mod c.val 128)]
  rw [yAt, biasRow_apply]
  refine congrArg (· + v (ix1 c)) (Finset.sum_congr rfl fun g _ => ?_)
  rw [spread_apply]

/-- An element of the third result. -/
theorem result2_apply (x : Vec Ideal S4x8192x3072 .bf16) (b : Fin 4) (r : Fin 8192) (g : Fin 24) :
    result2 x (ix3 b r g) = kerScale (groupMax x b r g) := flipS_apply _ b r g

/-- The run: each result at its function of the arguments, the arguments unchanged. -/
theorem run : θ_run defs (onTc (τ := τ) (main (F := Ideal))) ⟨m, fun _ => 0, ρ⟩ fun r => ∀ c : Dev nD,
      r.2.mem ((c : Thread nD τ).loc main_v5) = result0 (m ((c : Thread nD τ).loc main_arg0))
        (m ((c : Thread nD τ).loc main_arg1)) (m ((c : Thread nD τ).loc main_arg2)) (m ((c : Thread nD τ).loc main_arg3))
      ∧ r.2.mem ((c : Thread nD τ).loc main_v3_1) = Q (m ((c : Thread nD τ).loc main_arg0))
      ∧ r.2.mem ((c : Thread nD τ).loc main_v6) = result2 (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      ((h c).2 main_v5 (Pipeline.mem_restRefs_of main_v5 (by decide) (by decide))).trans ((W_main_v5 m c).trans (by
        rw [final4, V_main_arg0, V_main_arg1, V_main_v1, V_main_v2]; rfl)),
      ((h c).1 5).trans ((final5 m c).trans (by rw [V_main_arg0])),
      ((h c).2 main_v6 (Pipeline.mem_restRefs_of main_v6 (by decide) (by decide))).trans ((W_main_v6 m c).trans (by
        rw [final6, V_main_arg0]; rfl)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Run

end
-- ==== Proof.ReferenceRun.lean ====
/- What the reference's three result arrays hold after its run, each as one function of the argument arrays. The
   reference has one grid point and every window's block is its whole array. -/
module

public import proofs.«01_k».proof.Proof.Gen.ReferenceIdeal.Frame
public import Idealize.ShloMosaic.Lib.Pipeline.Value

@[expose] public section

noncomputable section

namespace Cert.ReferenceIdeal.Run

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v0_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v0_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_2) = (dats m 0 c).arrAt 6 cfg0.N :=
  (h c).1 6

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S4x8192x3072.Idx) : ((cfg0.win 0).blk t).view.emb j = j := by
  obtain ⟨e0, e1, e2⟩ := idx_zero0 t
  funext a; apply Fin.ext
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 3072 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S3072x1152.Idx) : ((cfg0.win 1).blk t).view.emb j = j := by
  obtain ⟨e0, e1⟩ := idx_zero1 t
  funext a; apply Fin.ext
  match a with
  | ⟨0, _⟩ => show win0_1.index t (0 : Fin 2) * 3072 + 1 * (j 0).val = (j 0).val; omega
  | ⟨1, _⟩ => show win0_1.index t (1 : Fin 2) * 1152 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S24x9.Idx) : ((cfg0.win 2).blk t).view.emb j = j := by
  obtain ⟨e0, e1⟩ := idx_zero2 t
  funext a; apply Fin.ext
  match a with
  | ⟨0, _⟩ => show win0_2.index t (0 : Fin 2) * 24 + 1 * (j 0).val = (j 0).val; omega
  | ⟨1, _⟩ => show win0_2.index t (1 : Fin 2) * 9 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S1152.Idx) : ((cfg0.win 3).blk t).view.emb j = j := by
  have e0 := idx_zero3 t
  funext a; apply Fin.ext
  match a with
  | ⟨0, _⟩ => show win0_3.index t (0 : Fin 1) * 1152 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S4x8192x1152.Idx) : ((cfg0.win 4).blk t).view.emb j = j := by
  obtain ⟨e0, e1, e2⟩ := idx_zero4 t
  funext a; apply Fin.ext
  match a with
  | ⟨0, _⟩ => show win0_4.index t (0 : Fin 3) * 4 + 1 * (j 0).val = (j 0).val; omega
  | ⟨1, _⟩ => show win0_4.index t (1 : Fin 3) * 8192 + 1 * (j 1).val = (j 1).val; omega
  | ⟨2, _⟩ => show win0_4.index t (2 : Fin 3) * 1152 + 1 * (j 2).val = (j 2).val; omega

theorem hz5 : (![0, 0, 0] : Fin 3 → Nat) = fun _ => 0 := funext fun a => by fin_cases a <;> rfl

/-- Window 5's block index at the one point is zero on every axis. -/
theorem idx_zero5 : ∀ t : Fin cfg0.N, win0_5.index t (0 : Fin 3) = 0 ∧ win0_5.index t (1 : Fin 3) = 0 ∧ win0_5.index t (2 : Fin 3) = 0 :=
  (by decide +kernel : ∀ t : Fin grid0.N, _)

/-- An index of window 5's block is the same index of its array. -/
theorem emb5 (t : Fin cfg0.N) (j : S4x8192x3072.Idx) : ((cfg0.win 5).blk t).view.emb j = j := by
  obtain ⟨e0, e1, e2⟩ := idx_zero5 t
  funext a; apply Fin.ext
  match a with
  | ⟨0, _⟩ => show win0_5.index t (0 : Fin 3) * 4 + 1 * (j 0).val = (j 0).val; omega
  | ⟨1, _⟩ => show win0_5.index t (1 : Fin 3) * 8192 + 1 * (j 1).val = (j 1).val; omega
  | ⟨2, _⟩ => show win0_5.index t (2 : Fin 3) * 3072 + 1 * (j 2).val = (j 2).val; omega

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S4x8192x24.Idx) : ((cfg0.win 6).blk t).view.emb j = j := by
  obtain ⟨e0, e1, e2⟩ := idx_zero6 t
  funext a; apply Fin.ext
  match a with
  | ⟨0, _⟩ => show win0_6.index t (0 : Fin 3) * 4 + 1 * (j 0).val = (j 0).val; omega
  | ⟨1, _⟩ => show win0_6.index t (1 : Fin 3) * 8192 + 1 * (j 1).val = (j 1).val; omega
  | ⟨2, _⟩ => show win0_6.index t (2 : Fin 3) * 24 + 1 * (j 2).val = (j 2).val; omega

/-! ### Output window 4: the array after the run -/

/-- What the window's array ends holding: `out0_4` applied to the argument arrays in place of the input blocks (a value that the
    frame states apart, `kK_payN a…`, keeps its loads inside its own definition). -/
abbrev G4 (a0 : Vec F S4x8192x3072 .bf16) (a1 : Vec F S3072x1152 .fp8e4m3) (a2 : Vec F S24x9 .f32) (a3 : Vec F S1152 .f32) : Vec F S4x8192x1152 .bf16 :=
  k0_pay1 (k0_pay4 a0) (k0_pay7 a0 a1) a2 a3

/-- A load of the whole of a block reads the block, and the one store through the whole rectangle leaves its payload. -/
theorem out4_eq (a0 : Vec F S4x8192x3072 .bf16) (a1 : Vec F S3072x1152 .fp8e4m3) (a2 : Vec F S24x9 .f32) (a3 : Vec F S1152 .f32) : out0_4 (F := F) a0 a1 a2 a3 = G4 a0 a1 a2 a3 := by
  unfold out0_4
  rw [View.canon_unit_zero hz4, View.ld_unit_zero (S := S4x8192x3072) hz0 _ a0, View.ld_unit_zero (S := S3072x1152) hz1 _ a1, View.ld_unit_zero (S := S24x9) hz2 _ a2, View.ld_unit_zero (S := S1152) hz3 _ a3]

/-- Cutting the point's block out of `X` and reading `X` through the block's view give the same. -/
theorem cut4_eq (t : Fin cfg0.N) (X : Vec F S4x8192x1152 .bf16) :
    (cfg0.win 4).cut (grid0.coords t) X = ((cfg0.win 4).blk t).view.read (Elt F) X := by
  funext j
  show X j = X (((cfg0.win 4).blk t).view.emb j)
  rw [emb4]

/-- WHAT THE POINT WRITES BACK is its block of `G4` of the argument arrays as the region finds them. -/
theorem flushed4_eq (c : Dev nD) (t : Fin cfg0.N) :
    (dats m 0 c).flushed 4 t = ((cfg0.win 4).blk t).view.read (Elt F) (G4 (V m c main_arg0) (V m c main_arg1) (V m c main_arg2) (V m c main_arg3)) := by
  show (cfg0.win 4).cut (grid0.coords t) ((dats m 0 c).after 4 t) = _
  rw [after0_4, out4_eq, iblk0_eq, iblk1_eq, iblk2_eq, iblk3_eq]
  exact cut4_eq t _

/-- Every index of the array is in the point's block. -/
theorem covered4 (i : S4x8192x1152.Idx) :
    ∃ t : Fin cfg0.N, (cfg0.win 4).flush t = true ∧ i ∈ ((cfg0.win 4).blk t).view.set :=
  ⟨(⟨0, by decide⟩ : Fin cfg0.N), flush0_4 _, by have h := ((cfg0.win 4).blk (⟨0, by decide⟩ : Fin cfg0.N)).view.emb_mem_set i; rwa [emb4] at h⟩

/-- THE ARRAY after the run: `G4` of the argument arrays as launched. -/
theorem final4 (c : Dev nD) : (dats m 0 c).arrAt 4 cfg0.N = G4 (m ((c : Thread nD τ).loc main_arg0)) (m ((c : Thread nD τ).loc main_arg1)) (m ((c : Thread nD τ).loc main_arg2)) (m ((c : Thread nD τ).loc main_arg3)) :=
  ((dats m 0 c).arrAt_eq_of_cover 4 (G4 (V m c main_arg0) (V m c main_arg1) (V m c main_arg2) (V m c main_arg3)) (fun t _ => flushed4_eq m c t) covered4).trans (by rw [V_main_arg0, V_main_arg1, V_main_arg2, V_main_arg3])

/-! ### Output window 5: the array after the run -/

/-- What the window's array ends holding: `out0_5` applied to the argument arrays in place of the input blocks (a value that the
    frame states apart, `kK_payN a…`, keeps its loads inside its own definition). -/
abbrev G5 (a0 : Vec F S4x8192x3072 .bf16) (a1 : Vec F S3072x1152 .fp8e4m3) (a2 : Vec F S24x9 .f32) (a3 : Vec F S1152 .f32) : Vec F S4x8192x3072 .fp8e4m3 :=
  k0_pay6 a0

/-- A load of the whole of a block reads the block, and the one store through the whole rectangle leaves its payload. -/
theorem out5_eq (a0 : Vec F S4x8192x3072 .bf16) (a1 : Vec F S3072x1152 .fp8e4m3) (a2 : Vec F S24x9 .f32) (a3 : Vec F S1152 .f32) : out0_5 (F := F) a0 a1 a2 a3 = G5 a0 a1 a2 a3 := by
  unfold out0_5
  rw [View.canon_unit_zero hz5, View.ld_unit_zero (S := S4x8192x3072) hz0 _ a0]

/-- Cutting the point's block out of `X` and reading `X` through the block's view give the same. -/
theorem cut5_eq (t : Fin cfg0.N) (X : Vec F S4x8192x3072 .fp8e4m3) :
    (cfg0.win 5).cut (grid0.coords t) X = ((cfg0.win 5).blk t).view.read (Elt F) X := by
  funext j
  show X j = X (((cfg0.win 5).blk t).view.emb j)
  rw [emb5]

/-- WHAT THE POINT WRITES BACK is its block of `G5` of the argument arrays as the region finds them. -/
theorem flushed5_eq (c : Dev nD) (t : Fin cfg0.N) :
    (dats m 0 c).flushed 5 t = ((cfg0.win 5).blk t).view.read (Elt F) (G5 (V m c main_arg0) (V m c main_arg1) (V m c main_arg2) (V m c main_arg3)) := by
  show (cfg0.win 5).cut (grid0.coords t) ((dats m 0 c).after 5 t) = _
  rw [after0_5, out5_eq, iblk0_eq, iblk1_eq, iblk2_eq, iblk3_eq]
  exact cut5_eq t _

/-- Every index of the array is in the point's block. -/
theorem covered5 (i : S4x8192x3072.Idx) :
    ∃ t : Fin cfg0.N, (cfg0.win 5).flush t = true ∧ i ∈ ((cfg0.win 5).blk t).view.set :=
  ⟨(⟨0, by decide⟩ : Fin cfg0.N), flush0_5 _, by have h := ((cfg0.win 5).blk (⟨0, by decide⟩ : Fin cfg0.N)).view.emb_mem_set i; rwa [emb5] at h⟩

/-- THE ARRAY after the run: `G5` of the argument arrays as launched. -/
theorem final5 (c : Dev nD) : (dats m 0 c).arrAt 5 cfg0.N = G5 (m ((c : Thread nD τ).loc main_arg0)) (m ((c : Thread nD τ).loc main_arg1)) (m ((c : Thread nD τ).loc main_arg2)) (m ((c : Thread nD τ).loc main_arg3)) :=
  ((dats m 0 c).arrAt_eq_of_cover 5 (G5 (V m c main_arg0) (V m c main_arg1) (V m c main_arg2) (V m c main_arg3)) (fun t _ => flushed5_eq m c t) covered5).trans (by rw [V_main_arg0, V_main_arg1, V_main_arg2, V_main_arg3])

/-! ### Output window 6: the array after the run -/

/-- What the window's array ends holding: `out0_6` applied to the argument arrays in place of the input blocks (a value that the
    frame states apart, `kK_payN a…`, keeps its loads inside its own definition). -/
abbrev G6 (a0 : Vec F S4x8192x3072 .bf16) (a1 : Vec F S3072x1152 .fp8e4m3) (a2 : Vec F S24x9 .f32) (a3 : Vec F S1152 .f32) : Vec F S4x8192x24 .f32 :=
  k0_pay4 a0

/-- A load of the whole of a block reads the block, and the one store through the whole rectangle leaves its payload. -/
theorem out6_eq (a0 : Vec F S4x8192x3072 .bf16) (a1 : Vec F S3072x1152 .fp8e4m3) (a2 : Vec F S24x9 .f32) (a3 : Vec F S1152 .f32) : out0_6 (F := F) a0 a1 a2 a3 = G6 a0 a1 a2 a3 := by
  unfold out0_6
  rw [View.canon_unit_zero hz6, View.ld_unit_zero (S := S4x8192x3072) hz0 _ a0]

/-- Cutting the point's block out of `X` and reading `X` through the block's view give the same. -/
theorem cut6_eq (t : Fin cfg0.N) (X : Vec F S4x8192x24 .f32) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3)) := by
  show (cfg0.win 6).cut (grid0.coords t) ((dats m 0 c).after 6 t) = _
  rw [after0_6, out6_eq, iblk0_eq, iblk1_eq, iblk2_eq, iblk3_eq]
  exact cut6_eq t _

/-- Every index of the array is in the point's block. -/
theorem covered6 (i : S4x8192x24.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) :=
  ((dats m 0 c).arrAt_eq_of_cover 6 (G6 (V m c main_arg0) (V m c main_arg1) (V m c main_arg2) (V m c main_arg3)) (fun t _ => flushed6_eq m c t) covered6).trans (by rw [V_main_arg0, V_main_arg1, V_main_arg2, V_main_arg3])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G4 (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = G5 (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = G6 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post4 m r h c).trans (final4 m c),
      (post5 m r h c).trans (final5 m c),
      (post6 m r h c).trans (final6 m c),
      kept_main_arg0 m r h c,
      kept_main_arg1 m r h c,
      kept_main_arg2 m r h c,
      kept_main_arg3 m r h c⟩)
    (run_main m ρ)

end Cert.ReferenceIdeal.Run

end
-- ==== Proof.ReferenceValues.lean ====
/- The reference's three results at an index: every scale from its group's largest magnitude, every code from its
   element and its group's largest magnitude, every element of `y` as a sum over the groups. -/
module

public import proofs.«01_k».proof.Proof.ReferenceRun
public import proofs.«01_k».proof.Proof.Scalar

@[expose] public section

noncomputable section

namespace Cert.ReferenceIdeal.Values

open Cert.ReferenceIdeal Cert.ReferenceIdeal.Gen Idealize.ShloMosaic Idealize.SL.Sem
open Cert.Quant

/-! ## The body's steps, each over arrays of its own -/

/-- The largest magnitude of every group. -/
def amaxV (X : FVec Ideal S4x8192x24x128 .f32) : FVec Ideal S4x8192x24 .f32 :=
  multiReduction .maximumf [3] S4x8192x24 (absf X) 0xFF800000#32 reduces_S4x8192x24x128_S4x8192x24 (.inl rfl) rfl

/-- The exponents from the largest magnitudes. -/
def expV (A : FVec Ideal S4x8192x24 .f32) : FVec Ideal S4x8192x24 .f32 :=
  select (cmpf .oeq A (broadcast S4x8192x24 (Scalar.ofBits .f32 0x00000000#32)))
    (broadcast S4x8192x24 (Scalar.ofBits .f32 0x00000000#32))
    (addf (floor (divf (log (mulf A (broadcast S4x8192x24 (Scalar.ofBits .f32 0x3B124925#32))))
      (log (broadcast S4x8192x24 (Scalar.ofBits .f32 0x40000000#32)))))
      (broadcast S4x8192x24 (Scalar.ofBits .f32 0x3F800000#32)))

/-- The codes from the elements and the exponents. -/
def codesV (X : FVec Ideal S4x8192x24x128 .f32) (E : FVec Ideal S4x8192x24 .f32) : FVec Ideal S4x8192x24x128 .fp8e4m3 :=
  truncf .fp8e4m3 (minimumf (broadcast S4x8192x24x128 (Scalar.ofBits .f32 0x43E00000#32))
    (maximumf (broadcast S4x8192x24x128 (Scalar.ofBits .f32 0xC3E00000#32))
      (mulf X (broadcastTo S4x8192x24x128 (shapeCast S4x8192x24x1
        (exp2 (subf (broadcast S4x8192x24 (Scalar.ofBits .f32 0x00000000#32)) E))
        shapeCasts_S4x8192x24_S4x8192x24x1) broadcasts_S4x8192x24x1_S4x8192x24x128)))) bitsLt_fp8e4m3_f32

/-- The products of every group's codes and weights. -/
def dotV (q : FVec Ideal S4x8192x24x128 .fp8e4m3) (w : FVec Ideal S3072x1152 .fp8e4m3) : FVec Ideal S24x32768x1152 .f32 :=
  matmul (φ₁ := .fp8e4m3) (φ₂ := .fp8e4m3) dot_S32768x24x128_S24x128x1152_S24x32768x1152_2_1_0_2_1_0 none
    (shapeCast S32768x24x128 q shapeCasts_S4x8192x24x128_S32768x24x128)
    (shapeCast S24x128x1152 w shapeCasts_S3072x1152_S24x128x1152) (constant S24x32768x1152 .f32 0x00000000#32)

/-! ## Each step at an index -/

theorem elem_apply (x : Vec Ideal S4x8192x3072 .bf16) (b : Fin 4) (r : Fin 8192) (g : Fin 24) (l : Fin 128) :
    k0_pay2 x (ix4 b r g l) = x (ix3 b r (col g l)) := by
  pointwise [k0_pay2, col]

theorem amaxV_apply (X : FVec Ideal S4x8192x24x128 .f32) (b : Fin 4) (r : Fin 8192) (g : Fin 24) :
    amaxV X (ix3 b r g) = amax fun l => X (ix4 b r g l) := by
  pointwise [amaxV, amax]

theorem expV_apply (A : FVec Ideal S4x8192x24 .f32) (i : S4x8192x24.Idx) : expV A i = refExp (A i) := by
  pointwise [expV, refExp]

theorem codesV_apply (X : FVec Ideal S4x8192x24x128 .f32) (E : FVec Ideal S4x8192x24 .f32) (b : Fin 4) (r : Fin 8192)
    (g : Fin 24) (l : Fin 128) :
    codesV X E (ix4 b r g l) = min (Ideal.ofBits .f32 1138753536#32) (max (Ideal.ofBits .f32 3286237184#32)
      (X (ix4 b r g l) * Ideal.exp2 (0 - E (ix3 b r g)))) := by
  pointwise [codesV]
  rfl

theorem dotV_apply (q : FVec Ideal S4x8192x24x128 .fp8e4m3) (w : FVec Ideal S3072x1152 .fp8e4m3) (g : Fin 24)
    (b : Fin 4) (r : Fin 8192) (c : Fin 1152) :
    dotV q w (ix3 g ⟨b.val * 8192 + r.val, by have := b.isLt; have := r.isLt; omega⟩ c)
      = ∑ l : Fin 128, q (ix4 b r g l) * w (ix2 (col g l) c) := by
  pointwise [dotV, col]

theorem sum_apply (s : FVec Ideal S4x8192x24 .f32) (d : FVec Ideal S24x32768x1152 .f32) (ws : Vec Ideal S24x9 .f32)
    (v : Vec Ideal S1152 .f32) (b : Fin 4) (r : Fin 8192) (c : Fin 1152) :
    k0_pay1 s d ws v (ix3 b r c)
      = (∑ g : Fin 24, d (ix3 g ⟨b.val * 8192 + r.val, by have := b.isLt; have := r.isLt; omega⟩ c) * s (ix3 b r g)
          * ws (ix2 g ⟨c.val / 128, by have := c.isLt; omega⟩)) + v (ix1 c) := by
  pointwise [k0_pay1]

theorem flat_apply (x : Vec Ideal S4x8192x3072 .bf16) (b : Fin 4) (r : Fin 8192) (g : Fin 24) (l : Fin 128) :
    k0_pay6 x (ix3 b r (col g l)) = k0_pay5 x (ix4 b r g l) := by
  pointwise [k0_pay6, col]

/-! ## The results -/

/-- The largest magnitude of group `g` of row `r` of batch `b`. -/
def groupMax (x : Vec Ideal S4x8192x3072 .bf16) (b : Fin 4) (r : Fin 8192) (g : Fin 24) : EReal :=
  amax fun l => x (ix3 b r (col g l))

theorem pay3_eq (x : Vec Ideal S4x8192x3072 .bf16) : k0_pay3 x = expV (amaxV (k0_pay2 x)) := rfl

theorem pay4_eq (x : Vec Ideal S4x8192x3072 .bf16) : k0_pay4 x = exp2 (k0_pay3 x) := rfl

theorem pay5_eq (x : Vec Ideal S4x8192x3072 .bf16) : k0_pay5 x = codesV (k0_pay2 x) (k0_pay3 x) := rfl

theorem pay7_eq (x : Vec Ideal S4x8192x3072 .bf16) (w : Vec Ideal S3072x1152 .fp8e4m3) :
    k0_pay7 x w = dotV (k0_pay5 x) w := rfl

theorem exponent_apply (x : Vec Ideal S4x8192x3072 .bf16) (b : Fin 4) (r : Fin 8192) (g : Fin 24) :
    k0_pay3 x (ix3 b r g) = refExp (groupMax x b r g) := by
  rw [pay3_eq, expV_apply, amaxV_apply]
  simp only [elem_apply]
  rfl

theorem exp2V_apply (E : FVec Ideal S4x8192x24 .f32) (i : S4x8192x24.Idx) : exp2 E i = Ideal.exp2 (E i) := rfl

/-- The reference's scales. -/
theorem scales_apply (x : Vec Ideal S4x8192x3072 .bf16) (b : Fin 4) (r : Fin 8192) (g : Fin 24) :
    k0_pay4 x (ix3 b r g) = scale (groupMax x b r g) := by
  rw [pay4_eq, exp2V_apply, exponent_apply]
  rfl

theorem codes4_apply (x : Vec Ideal S4x8192x3072 .bf16) (b : Fin 4) (r : Fin 8192) (g : Fin 24) (l : Fin 128) :
    k0_pay5 x (ix4 b r g l) = code (groupMax x b r g) (x (ix3 b r (col g l))) := by
  rw [pay5_eq, codesV_apply, exponent_apply, elem_apply]
  rfl

/-- The reference's codes. -/
theorem codes_apply (x : Vec Ideal S4x8192x3072 .bf16) (b : Fin 4) (r : Fin 8192) (g : Fin 24) (l : Fin 128) :
    k0_pay6 x (ix3 b r (col g l)) = code (groupMax x b r g) (x (ix3 b r (col g l))) := by
  rw [flat_apply, codes4_apply]

/-- The reference's `y`. -/
theorem y_apply (x : Vec Ideal S4x8192x3072 .bf16) (w : Vec Ideal S3072x1152 .fp8e4m3) (ws : Vec Ideal S24x9 .f32)
    (v : Vec Ideal S1152 .f32) (b : Fin 4) (r : Fin 8192) (c : Fin 1152) :
    k0_pay1 (k0_pay4 x) (k0_pay7 x w) ws v (ix3 b r c)
      = (∑ g : Fin 24, (∑ l : Fin 128, code (groupMax x b r g) (x (ix3 b r (col g l))) * w (ix2 (col g l) c))
          * scale (groupMax x b r g) * ws (ix2 g ⟨c.val / 128, by have := c.isLt; omega⟩)) + v (ix1 c) := by
  rw [sum_apply]
  congr 1
  refine Finset.sum_congr rfl fun g _ => ?_
  rw [pay7_eq, dotV_apply, scales_apply]
  simp only [codes4_apply]

end Cert.ReferenceIdeal.Values
-- ==== Proof.Equation.lean ====
/- The equation: where every group's largest magnitude is tame, the kernel's three results are the reference's. -/
module

public import proofs.«01_k».proof.Proof.KernelResults
public import proofs.«01_k».proof.Proof.ReferenceRun
public import proofs.«01_k».proof.Proof.ReferenceValues

@[expose] public section

noncomputable section

namespace Cert.Equation

open Cert.KernelIdeal Cert.KernelIdeal.Run Cert.KernelIdeal.Block Cert.Quant Idealize.ShloMosaic Idealize.SL.Sem
open Cert.ReferenceIdeal.Run (G4 G5 G6)

variable (x : Vec Ideal S4x8192x3072 .bf16) (w : Vec Ideal S3072x1152 .fp8e4m3) (s : Vec Ideal S24x9 .f32)
    (v : Vec Ideal S1152 .f32) (ht : ∀ (b : Fin 4) (r : Fin 8192) (g : Fin 24), Tame (groupMax x b r g))

include ht

/-- The results `y` agree. -/
theorem result0_eq : result0 x w s v = G4 (F := Ideal) x w s v := by
  funext i
  obtain ⟨b, r, c, rfl⟩ : ∃ (b : Fin 4) (r : Fin 8192) (c : Fin 1152), i = (ix3 b r c : S4x8192x1152.Idx) :=
    ⟨i 0, i 1, i 2, by funext a; match a with
      | ⟨0, _⟩ => rfl
      | ⟨1, _⟩ => rfl
      | ⟨2, _⟩ => rfl⟩
  rw [result0_apply]
  refine Eq.trans ?_ (Cert.ReferenceIdeal.Values.y_apply x w s v b r c).symm
  refine congrArg (· + v (ix1 c)) (Finset.sum_congr rfl fun g _ => ?_)
  rw [kerScale_eq _ (ht b r g)]
  refine congrArg (· * _ * _) (Finset.sum_congr rfl fun l _ => ?_)
  rw [kerCode_eq _ _ (ht b r g)]
  rfl

/-- The codes agree. -/
theorem result1_eq : Q x = G5 (F := Ideal) x w s v := by
  funext i
  obtain ⟨b, r, c, rfl⟩ : ∃ (b : Fin 4) (r : Fin 8192) (c : Fin 3072), i = (ix3 b r c : S4x8192x3072.Idx) :=
    ⟨i 0, i 1, i 2, by funext a; match a with
      | ⟨0, _⟩ => rfl
      | ⟨1, _⟩ => rfl
      | ⟨2, _⟩ => rfl⟩
  show kerCode (groupMax x b r (grp c)) (x (ix3 b r c)) = _
  rw [kerCode_eq _ _ (ht b r (grp c))]
  have h := Cert.ReferenceIdeal.Values.codes_apply x b r (grp c) (place c)
  rw [col_grp] at h
  exact h.symm

/-- The scales agree. -/
theorem result2_eq : result2 x = G6 (F := Ideal) x w s v := by
  funext i
  obtain ⟨b, r, g, rfl⟩ : ∃ (b : Fin 4) (r : Fin 8192) (g : Fin 24), i = (ix3 b r g : S4x8192x24.Idx) :=
    ⟨i 0, i 1, i 2, by funext a; match a with
      | ⟨0, _⟩ => rfl
      | ⟨1, _⟩ => rfl
      | ⟨2, _⟩ => rfl⟩
  rw [result2_apply, kerScale_eq _ (ht b r g)]
  exact (Cert.ReferenceIdeal.Values.scales_apply x b r g).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Tame
public import proofs.«01_k».proof.Proof.Equation
public import Idealize.ShloMosaic.Adequacy
public import Idealize.ShloMosaic.Init

@[expose] public section

noncomputable section

namespace Cert.Proof

open Idealize.ShloMosaic Idealize.SL.Sem

/-- Where the precondition holds, the kernel's results are the reference's, result by result. -/
theorem algebraic : Cert.algebraic_KernelIdeal_ReferenceIdeal_pre_amax_tame
    (hKernelIdeal := Cert.KernelIdeal.Gen.facts) (hReferenceIdeal := Cert.ReferenceIdeal.Gen.facts)
    (hPre_amax_tame := Cert.Pre_amax_tame.Read.facts) := by
  intro m ρ m' ρ' hpre hargs
  have ht := fun c => Cert.Pre_amax_tame.Read.tame _ _ _ _ (hpre c)
  refine ⟨_, _, _, Cert.KernelIdeal.Run.run m ρ, ?_⟩
  refine (θ_run Cert.ReferenceIdeal.defs _ _).mono (fun r h c => ?_) (Cert.ReferenceIdeal.Run.run m' ρ')
  obtain ⟨h4, h5, h6, k0, k1, k2, k3⟩ := h c
  obtain ⟨e0, e1, e2, e3⟩ := hargs c
  rw [e0, e1, e2, e3] at h4 h5 h6
  exact ⟨h4.trans (Cert.Equation.result0_eq _ _ _ _ (ht c)).symm,
    h5.trans (Cert.Equation.result1_eq _ _ _ _ (ht c)).symm,
    h6.trans (Cert.Equation.result2_eq _ _ _ _ (ht c)).symm, k0, k1, k2, k3⟩

/-- The frame claims are the generated ones, with the precondition as without it. Idealization rewrites nothing, so
    `preserves` says nothing more. -/
theorem claim : Cert.Claim := ⟨Cert.Kernel.Gen.facts, Cert.KernelIdeal.Gen.facts, Cert.ReferenceIdeal.Gen.facts,
  Cert.Pre_amax_tame.Read.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Gen.frame m ρ,
  fun m ρ _ => Cert.ReferenceIdeal.Gen.frame m ρ,
  trivial,
  algebraic⟩

end Cert.Proof

end
